-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gather_GatherIdeal : Prop :=
  True

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v4)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v5) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_range := hPre_in_range)
    ∧ quiescent_GatherIdeal (hGatherIdeal := hGatherIdeal) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_in_range := hPre_in_range)
-- ==== Pre_finite.lean ====
abbrev S32x576x256 : Shape := ⟨3, ![32, 576, 256]⟩
abbrev S32x576 : Shape := ⟨2, ![32, 576]⟩
abbrev S1024x256 : Shape := ⟨2, ![1024, 256]⟩
abbrev S_ : Shape := ⟨0, ![]⟩

class Facts : Prop where
  bcast_S_S32x576x256 : S_.BroadcastsInDim S32x576x256 (![] : Fin 0 → Fin S32x576x256.rank)
  reducesTo_S32x576x256_S_d0_1_2 : S32x576x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32x576x256 .f32) (main_arg1 : FVec F S32x576 .f32) (main_arg2 : FVec F S1024x256 .f32) : IVec S_ 1 :=
  let main_v0 : FVec F S32x576x256 .f32 := Host.absf main_arg0
  let main_cst : FVec F S_ .f32 := constant S_ .f32 0x7F800000#32
  let main_v1 : FVec F S32x576x256 .f32 := broadcastInDim S32x576x256 ![] bcast_S_S32x576x256 main_cst
  let main_v2 : IVec S32x576x256 1 := cmpf .olt main_v0 main_v1
  let main_c : IVec S_ 1 := constantI S_ 1 1#1
  let main_v3 : IVec S_ 1 := (fun x v => Host.reduce IntOp.andi x v reducesTo_S32x576x256_S_d0_1_2 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Pre_in_range.lean ====
abbrev S18432 : Shape := ⟨1, ![18432]⟩
abbrev S1024x256 : Shape := ⟨2, ![1024, 256]⟩
abbrev S_ : Shape := ⟨0, ![]⟩

class Facts : Prop where
  bcast_S_S18432 : S_.BroadcastsInDim S18432 (![] : Fin 0 → Fin S18432.rank)
  reducesTo_S18432_S_d0 : S18432.ReducesTo [0] S_
  h_S_ : 0 < S_.numel

variable [Facts]

def fn {F : FTy → Type} [FloatOps F] (main_arg0 : IVec S18432 32) (main_arg1 : FVec F S1024x256 .f32) : IVec S_ 1 :=
  let main_c : IVec S_ 32 := constantI S_ 32 0#32
  let main_v0 : IVec S18432 32 := broadcastInDim S18432 ![] bcast_S_S18432 main_c
  let main_v1 : IVec S18432 1 := cmpi .sge main_arg0 main_v0
  let main_c_0 : IVec S_ 1 := constantI S_ 1 1#1
  let main_v2 : IVec S_ 1 := (fun x v => Host.reduce IntOp.andi x v reducesTo_S18432_S_d0 h_S_) main_v1 main_c_0
  let main_c_1 : IVec S_ 32 := constantI S_ 32 1024#32
  let main_v3 : IVec S18432 32 := broadcastInDim S18432 ![] bcast_S_S18432 main_c_1
  let main_v4 : IVec S18432 1 := cmpi .sle main_arg0 main_v3
  let main_c_2 : IVec S_ 1 := constantI S_ 1 1#1
  let main_v5 : IVec S_ 1 := (fun x v => Host.reduce IntOp.andi x v reducesTo_S18432_S_d0 h_S_) main_v4 main_c_2
  let main_v6 : IVec S_ 1 := andi main_v2 main_v5
  main_v6
-- ==== Kernel.lean ====
abbrev S32x576x256 : Shape := ⟨3, ![32, 576, 256]⟩
abbrev S32x576 : Shape := ⟨2, ![32, 576]⟩
abbrev S1024x256 : Shape := ⟨2, ![1024, 256]⟩
abbrev S18432x256 : Shape := ⟨2, ![18432, 256]⟩
abbrev S9x1x2048 : Shape := ⟨3, ![9, 1, 2048]⟩
abbrev S1 : Shape := ⟨1, ![1]⟩
abbrev S2048x256 : Shape := ⟨2, ![2048, 256]⟩
abbrev S1x1x2048 : Shape := ⟨3, ![1, 1, 2048]⟩
abbrev S1x1024 : Shape := ⟨2, ![1, 1024]⟩
abbrev S2 : Shape := ⟨1, ![2]⟩
abbrev S1024 : Shape := ⟨1, ![1024]⟩
abbrev S2048x1024 : Shape := ⟨2, ![2048, 1024]⟩
abbrev S2048 : Shape := ⟨1, ![2048]⟩
abbrev S2048x1 : Shape := ⟨2, ![2048, 1]⟩
abbrev S1x2048 : Shape := ⟨2, ![1, 2048]⟩
abbrev S1x1x1 : Shape := ⟨3, ![1, 1, 1]⟩

abbrev nBuf : Space → Nat
  | .hbm => 8
  | .vmem => 10
  | .smem => 2
  | _ => 0

abbrev bufTy : (tb : Table) → Fin (tcTables nBuf tb) → BufTy
  | .hbm, ⟨0, _⟩ => ⟨S32x576x256, .f32⟩
  | .hbm, ⟨1, _⟩ => ⟨S32x576, .f32⟩
  | .hbm, ⟨2, _⟩ => ⟨S1024x256, .f32⟩
  | .hbm, ⟨3, _⟩ => ⟨S18432x256, .f32⟩
  | .hbm, ⟨4, _⟩ => ⟨S9x1x2048, .f32⟩
  | .hbm, ⟨5, _⟩ => ⟨S9x1x2048, .i32⟩
  | .hbm, ⟨6, _⟩ => ⟨S9x1x2048, .i32⟩
  | .hbm, ⟨7, _⟩ => ⟨S1, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x1x2048, .i32⟩
  | .local _ .vmem, ⟨9, _⟩ => ⟨S1x1024, .f32⟩
  | .local _ .smem, ⟨0, _⟩ => ⟨S1, .f32⟩
  | .local _ .smem, ⟨1, _⟩ => ⟨S2, .f32⟩
  | _, _ => ⟨S32x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_stg5_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v63 : BitVec 1 := Scalar.cmpi .eq arg0 c8_i32
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x576x256 : Shape := ⟨3, ![32, 576, 256]⟩
abbrev S32x576 : Shape := ⟨2, ![32, 576]⟩
abbrev S1024x256 : Shape := ⟨2, ![1024, 256]⟩
abbrev S18432x256 : Shape := ⟨2, ![18432, 256]⟩
abbrev S18432 : Shape := ⟨1, ![18432]⟩
abbrev S_ : Shape := ⟨0, ![]⟩
abbrev S18432x1 : Shape := ⟨2, ![18432, 1]⟩
abbrev S256x1024 : Shape := ⟨2, ![256, 1024]⟩
abbrev S18432x1024 : Shape := ⟨2, ![18432, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S9x1x2048 : Shape := ⟨3, ![9, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S32x576x256, .f32⟩
  | .hbm, ⟨1, _⟩ => ⟨S32x576, .f32⟩
  | .hbm, ⟨2, _⟩ => ⟨S1024x256, .f32⟩
  | .hbm, ⟨3, _⟩ => ⟨S18432x256, .f32⟩
  | .hbm, ⟨4, _⟩ => ⟨S18432, .f32⟩
  | .hbm, ⟨5, _⟩ => ⟨S_, .f32⟩
  | .hbm, ⟨6, _⟩ => ⟨S18432, .f32⟩
  | .hbm, ⟨7, _⟩ => ⟨S18432, .i1⟩
  | .hbm, ⟨8, _⟩ => ⟨S18432x256, .f32⟩
  | .hbm, ⟨9, _⟩ => ⟨S_, .f32⟩
  | .hbm, ⟨10, _⟩ => ⟨S18432, .f32⟩
  | .hbm, ⟨11, _⟩ => ⟨S18432x1, .f32⟩
  | .hbm, ⟨12, _⟩ => ⟨S256x1024, .f32⟩
  | .hbm, ⟨13, _⟩ => ⟨S18432x1024, .f32⟩
  | .hbm, ⟨14, _⟩ => ⟨S_, .f32⟩
  | .hbm, ⟨15, _⟩ => ⟨S18432x1024, .f32⟩
  | .hbm, ⟨16, _⟩ => ⟨S18432x1024, .f32⟩
  | .hbm, ⟨17, _⟩ => ⟨S18432x1024, .f32⟩
  | .hbm, ⟨18, _⟩ => ⟨S18432x1024, .f32⟩
  | .hbm, ⟨19, _⟩ => ⟨S1024x256, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S18432x1024, .f32⟩
  | .hbm, ⟨24, _⟩ => ⟨S18432x1024, .f32⟩
  | .hbm, ⟨25, _⟩ => ⟨S18432x1024, .i32⟩
  | .hbm, ⟨26, _⟩ => ⟨S_, .f32⟩
  | .hbm, ⟨27, _⟩ => ⟨S_, .i32⟩
  | .hbm, ⟨28, _⟩ => ⟨S18432, .f32⟩
  | .hbm, ⟨29, _⟩ => ⟨S18432, .i32⟩
  | .hbm, ⟨30, _⟩ => ⟨S_, .i32⟩
  | .hbm, ⟨31, _⟩ => ⟨S18432, .i32⟩
  | .hbm, ⟨32, _⟩ => ⟨S18432, .i1⟩
  | .hbm, ⟨33, _⟩ => ⟨S_, .i32⟩
  | .hbm, ⟨34, _⟩ => ⟨S18432, .i32⟩
  | .hbm, ⟨35, _⟩ => ⟨S18432, .i32⟩
  | .hbm, ⟨36, _⟩ => ⟨S18432, .i32⟩
  | .hbm, ⟨37, _⟩ => ⟨S18432x1, .i32⟩
  | .hbm, ⟨38, _⟩ => ⟨S1, .i32⟩
  | .hbm, ⟨39, _⟩ => ⟨S_, .i32⟩
  | .hbm, ⟨40, _⟩ => ⟨S18432x1, .i32⟩
  | .hbm, ⟨41, _⟩ => ⟨S18432x1, .i1⟩
  | .hbm, ⟨42, _⟩ => ⟨S1x1, .i32⟩
  | .hbm, ⟨43, _⟩ => ⟨S18432x1, .i32⟩
  | .hbm, ⟨44, _⟩ => ⟨S18432x1, .i1⟩
  | .hbm, ⟨45, _⟩ => ⟨S18432x1, .i1⟩
  | .hbm, ⟨46, _⟩ => ⟨S_, .i1⟩
  | .hbm, ⟨47, _⟩ => ⟨S18432, .i1⟩
  | .hbm, ⟨48, _⟩ => ⟨S18432x256, .f32⟩
  | .hbm, ⟨49, _⟩ => ⟨S18432x256, .i1⟩
  | .hbm, ⟨50, _⟩ => ⟨S_, .f32⟩
  | .hbm, ⟨51, _⟩ => ⟨S18432x256, .f32⟩
  | .hbm, ⟨52, _⟩ => ⟨S18432x256, .f32⟩
  | .hbm, ⟨53, _⟩ => ⟨S18432, .f32⟩
  | .hbm, ⟨54, _⟩ => ⟨S18432x1, .f32⟩
  | .hbm, ⟨55, _⟩ => ⟨S18432x256, .f32⟩
  | .hbm, ⟨56, _⟩ => ⟨S18432x256, .f32⟩
  | .hbm, ⟨57, _⟩ => ⟨S18432x256, .f32⟩
  | .hbm, ⟨58, _⟩ => ⟨S18432x256, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S_, .i32⟩
  | .hbm, ⟨70, _⟩ => ⟨S18432, .i32⟩
  | .hbm, ⟨71, _⟩ => ⟨S18432, .i32⟩
  | .hbm, ⟨72, _⟩ => ⟨S_, .i32⟩
  | .hbm, ⟨73, _⟩ => ⟨S_, .i32⟩
  | .hbm, ⟨74, _⟩ => ⟨S18432, .i32⟩
  | .hbm, ⟨75, _⟩ => ⟨S18432, .i32⟩
  | .hbm, ⟨76, _⟩ => ⟨S9x1x2048, .i32⟩
  | .hbm, ⟨77, _⟩ => ⟨S9x1x2048, .i32⟩
  | .hbm, ⟨78, _⟩ => ⟨S1, .f32⟩
  | _, _ => ⟨S32x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_c : Ref sig .tc := ⟨.hbm, 68, rfl⟩
abbrev main_call2_v0 : Ref sig .tc := ⟨.hbm, 69, rfl⟩
abbrev main_call2_v1 : Ref sig .tc := ⟨.hbm, 70, rfl⟩
abbrev main_v31 : Ref sig .tc := ⟨.hbm, 71, rfl⟩
abbrev main_c_7 : Ref sig .tc := ⟨.hbm, 72, rfl⟩
abbrev main_call3_v0 : Ref sig .tc := ⟨.hbm, 73, rfl⟩
abbrev main_call3_v1 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩

abbrev nD : Nat := 1
abbrev τ : Topo := Topo.v7x

variable {F : FTy → Type} [FloatOps F]
-- ==== Gather.lean ====
abbrev S18432 : Shape := ⟨1, ![18432]⟩
abbrev S1024x256 : Shape := ⟨2, ![1024, 256]⟩
abbrev S_ : Shape := ⟨0, ![]⟩
abbrev S8x256 : Shape := ⟨2, ![8, 256]⟩
abbrev S1032x256 : Shape := ⟨2, ![1032, 256]⟩
abbrev S1032x2x128 : Shape := ⟨3, ![1032, 2, 128]⟩
abbrev S18432x2x128 : Shape := ⟨3, ![18432, 2, 128]⟩
abbrev S576 : Shape := ⟨1, ![576]⟩
abbrev S3x96x2x128 : Shape := ⟨4, ![3, 96, 2, 128]⟩
abbrev S3 : Shape := ⟨1, ![3]⟩
abbrev S1x96x2x128 : Shape := ⟨4, ![1, 96, 2, 128]⟩
abbrev S96x2x128 : Shape := ⟨3, ![96, 2, 128]⟩
abbrev S96 : Shape := ⟨1, ![96]⟩
abbrev S1 : Shape := ⟨1, ![1]⟩
abbrev S32x576x256 : Shape := ⟨3, ![32, 576, 256]⟩

abbrev nBuf : Table → Nat
  | .hbm => 8
  | .local .scVector .vmem => 2
  | _ => 0

abbrev bufTy : (tb : Table) → Fin (nBuf tb) → BufTy
  | .hbm, ⟨0, _⟩ => ⟨S18432, .i32⟩
  | .hbm, ⟨1, _⟩ => ⟨S1024x256, .f32⟩
  | .hbm, ⟨2, _⟩ => ⟨S_, .f32⟩
  | .hbm, ⟨3, _⟩ => ⟨S8x256, .f32⟩
  | .hbm, ⟨4, _⟩ => ⟨S1032x256, .f32⟩
  | .hbm, ⟨5, _⟩ => ⟨S1032x2x128, .f32⟩
  | .hbm, ⟨6, _⟩ => ⟨S18432x2x128, .f32⟩
  | .hbm, ⟨7, _⟩ => ⟨S32x576x256, .f32⟩
  | .local .scVector .vmem, ⟨0, _⟩ => ⟨S576, .i32⟩
  | .local .scVector .vmem, ⟨1, _⟩ => ⟨S3x96x2x128, .f32⟩
  | _, _ => ⟨S18432, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v2_scv : Ref sig .scVector := ⟨.hbm, 5, rfl⟩
abbrev main_arg0_scv : Ref sig .scVector := ⟨.hbm, 0, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v2 : BitVec 32 := Scalar.muli v1 c576_i32
  ![v2.toNat]
def k0_off2 (i : grid0.Coords) (c0_i32_32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v2 : BitVec 32 := Scalar.muli v1 c576_i32
  let v27 : BitVec 32 := Scalar.addi v2 c0_i32_32
  let c0_i32_37 : BitVec 32 := 0#32
  let c0_i32_38 : BitVec 32 := 0#32
  ![v27.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S18432 : Shape := ⟨1, ![18432]⟩
abbrev S1024x256 : Shape := ⟨2, ![1024, 256]⟩
abbrev S_ : Shape := ⟨0, ![]⟩
abbrev S18432x1 : Shape := ⟨2, ![18432, 1]⟩
abbrev S1 : Shape := ⟨1, ![1]⟩
abbrev S1x1 : Shape := ⟨2, ![1, 1]⟩
abbrev S18432x256 : Shape := ⟨2, ![18432, 256]⟩
abbrev S32x576x256 : Shape := ⟨3, ![32, 576, 256]⟩

abbrev nBuf : Space → Nat
  | .hbm => 35
  | .vmem => 0
  | .smem => 0
  | _ => 0

abbrev bufTy : (tb : Table) → Fin (tcTables nBuf tb) → BufTy
  | .hbm, ⟨0, _⟩ => ⟨S18432, .i32⟩
  | .hbm, ⟨1, _⟩ => ⟨S1024x256, .f32⟩
  | .hbm, ⟨2, _⟩ => ⟨S_, .i32⟩
  | .hbm, ⟨3, _⟩ => ⟨S18432, .i32⟩
  | .hbm, ⟨4, _⟩ => ⟨S18432, .i1⟩
  | .hbm, ⟨5, _⟩ => ⟨S_, .i32⟩
  | .hbm, ⟨6, _⟩ => ⟨S18432, .i32⟩
  | .hbm, ⟨7, _⟩ => ⟨S18432, .i1⟩
  | .hbm, ⟨8, _⟩ => ⟨S_, .i32⟩
  | .hbm, ⟨9, _⟩ => ⟨S18432, .i32⟩
  | .hbm, ⟨10, _⟩ => ⟨S18432, .i32⟩
  | .hbm, ⟨11, _⟩ => ⟨S18432, .i32⟩
  | .hbm, ⟨12, _⟩ => ⟨S18432x1, .i32⟩
  | .hbm, ⟨13, _⟩ => ⟨S1, .i32⟩
  | .hbm, ⟨14, _⟩ => ⟨S_, .i32⟩
  | .hbm, ⟨15, _⟩ => ⟨S18432x1, .i32⟩
  | .hbm, ⟨16, _⟩ => ⟨S18432x1, .i1⟩
  | .hbm, ⟨17, _⟩ => ⟨S1x1, .i32⟩
  | .hbm, ⟨18, _⟩ => ⟨S18432x1, .i32⟩
  | .hbm, ⟨19, _⟩ => ⟨S18432x1, .i1⟩
  | .hbm, ⟨20, _⟩ => ⟨S18432x1, .i1⟩
  | .hbm, ⟨21, _⟩ => ⟨S_, .i1⟩
  | .hbm, ⟨22, _⟩ => ⟨S18432, .i1⟩
  | .hbm, ⟨23, _⟩ => ⟨S18432x256, .f32⟩
  | .hbm, ⟨24, _⟩ => ⟨S18432x256, .i1⟩
  | .hbm, ⟨25, _⟩ => ⟨S_, .f32⟩
  | .hbm, ⟨26, _⟩ => ⟨S18432x256, .f32⟩
  | .hbm, ⟨27, _⟩ => ⟨S18432x256, .f32⟩
  | .hbm, ⟨28, _⟩ => ⟨S18432x1, .i1⟩
  | .hbm, ⟨29, _⟩ => ⟨S_, .f32⟩
  | .hbm, ⟨30, _⟩ => ⟨S_, .f32⟩
  | .hbm, ⟨31, _⟩ => ⟨S18432x256, .i1⟩
  | .hbm, ⟨32, _⟩ => ⟨S18432x256, .f32⟩
  | .hbm, ⟨33, _⟩ => ⟨S18432x256, .f32⟩
  | .hbm, ⟨34, _⟩ => ⟨S32x576x256, .f32⟩
  | _, _ => ⟨S18432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v4 : Ref sig .tc := ⟨.hbm, 33, rfl⟩
abbrev main_v5 : Ref sig .tc := ⟨.hbm, 34, rfl⟩

abbrev nD : Nat := 1
abbrev τ : Topo := Topo.v7x

variable {F : FTy → Type} [FloatOps F]
-- ==== Proof.Finite.lean ====
/- The precondition: every entry of the points and of the codes is a real number. -/
module

public import proofs.«01_k».proof.Pre_finite
public import Idealize.ShloMosaic.PureOps.Ideal
public import Idealize.ShloMosaic.Lib.ReduceAll

@[expose] public section

set_option maxRecDepth 16384

noncomputable section

namespace Cert.Finite

open Idealize.ShloMosaic Idealize.SL.Sem Cert.Pre_finite

instance facts : Cert.Pre_finite.Facts := ⟨by decide, by decide, by decide, by decide, by decide⟩

/-- A value below the infinity in absolute value is a real number. -/
theorem real_of_lt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  by_cases hb : max (x : EReal) (-(x : EReal)) < ⊤
  · rw [max_lt_iff] at hb
    refine ⟨EReal.toReal x, (EReal.coe_toReal (ne_of_lt hb.1) fun hx => ?_).symm⟩
    have hx' : (x : EReal) = ⊥ := hx
    have := hb.2
    rw [hx'] at this
    simp at this
  · rw [decide_eq_false hb] at h'
    exact absurd h' (by decide)

instance : Subsingleton S_.Idx := ⟨fun a b => funext fun i => i.elim0⟩

theorem real_of_pre (a0 : FVec Ideal S32x576x256 .f32) (a1 : FVec Ideal S32x576 .f32) (a2 : FVec Ideal S1024x256 .f32)
    (h : Cert.Pre_finite.fn  (F := Ideal) a0 a1 a2 = fun _ => 1#1) :
    (∀ i, ∃ r : ℝ, (a0 i : EReal) = (r : EReal)) ∧ (∀ i, ∃ r : ℝ, (a2 i : EReal) = (r : EReal)) := by
  have h' := congrFun h (Shape.Idx.first (s := S_) (by decide))
  obtain ⟨e0, e2⟩ := IntOp.andi_eq_one.1 h'
  exact ⟨fun i => real_of_lt _ (Host.reduce_andi_all _ _ _ _ _ e0 i), fun i => real_of_lt _ (Host.reduce_andi_all _ _ _ _ _ e2 i)⟩

end Cert.Finite
end
-- ==== Proof.KerVal.lean ====
/- What the kernel leaves in its output windows and in its scratch after each grid point. -/
module

public import proofs.«01_k».proof.Proof.Gen.KernelIdeal.Value
public import Idealize.ShloMosaic.Lib.Pipeline.ValueKit
public import Idealize.ShloMosaic.Lib.Pipeline.ReadBack
public import Idealize.ShloMosaic.Lib.Claim
public import Idealize.ShloMosaic.Lib.CellWrites
public import Idealize.ShloMosaic.Lib.Pointwise

@[expose] public section

set_option maxRecDepth 16384

noncomputable section

namespace Cert.KerVal

open Idealize.ShloMosaic Idealize.ShloMosaic.TcCoe Idealize.SL.Sem Cert.KernelIdeal Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0, 0]
    ∧ win0_3.index t = ![t.val, 0, 0] ∧ win0_4.index t = ![t.val, 0, 0] :=
  (by decide +kernel : ∀ t : Fin grid0.N, _)

/-- The codebook's window holds the codebook, at every point. -/
theorem cb_eq (c : Dev nD) (t : Fin cfg0.N) : iblk m c 1 t = m ((c : Thread nD τ).loc main_arg2) := by
  blk_ext! [iblk, V, idx t]

/-- A block of points. -/
theorem rows_eq (c : Dev nD) (t : Fin cfg0.N) (a : Fin 2048) (b : Fin 256) :
    (iblk m c 0 t : Vec Ideal S2048x256 .f32) (ValueIdx.ix2 a b)
      = shapeCast S18432x256 (m ((c : Thread nD τ).loc main_arg0)) shapeCasts_S32x576x256_S18432x256
          (ValueIdx.ix2 ⟨2048 * t.val + a.val, by have := lt_of_lt_of_eq t.isLt N_0; omega⟩ b) := by
  blk_simp [iblk, V, idx t]
  entry_read
  refine congrArg (shapeCast S18432x256 (m (c.tc.loc main_arg0)) shapeCasts_S32x576x256_S18432x256) ?_
  funext i
  fin_cases i
  · refine Fin.ext ?_
    blk_simp [idx t]
    show t.val * 2048 + a.val = 2048 * t.val + a.val
    omega
  · refine Fin.ext ?_
    blk_simp [idx t]

/-- A block of the mask. -/
theorem mask_eq (c : Dev nD) (t : Fin cfg0.N) (b : Fin 2048) :
    (iblk m c 2 t : Vec Ideal S1x1x2048 .f32) (ValueIdx.ix3 0 0 b)
      = m ((c : Thread nD τ).loc main_arg1) (ValueIdx.ix2 ⟨(2048 * t.val + b.val) / 576, by have := lt_of_lt_of_eq t.isLt N_0; omega⟩
          ⟨(2048 * t.val + b.val) % 576, Nat.mod_lt _ (by decide)⟩) := by
  blk_simp [iblk, V, idx t]
  entry_read
  pointwise
  refine congrArg (m (c.tc.loc main_arg1)) ?_
  have e : ((((View.whole main_v1).slice (win0_2.rect t)).emb (ValueIdx.ix3 0 0 b) 0).val * 2048
      + (((View.whole main_v1).slice (win0_2.rect t)).emb (ValueIdx.ix3 0 0 b) 2).val) = 2048 * t.val + b.val := by
    blk_simp [idx t]
    show t.val * 2048 + b.val = 2048 * t.val + b.val
    omega
  funext i
  fin_cases i
  · exact Fin.ext (congrArg (· / 576) e)
  · exact Fin.ext (congrArg (· % 576) e)

/-- The points' least distances at a block. -/
def dm (c : Dev nD) (t : Fin cfg0.N) : FVec Ideal S1x2048 .f32 :=
  k0_pay10 (m ((c : Thread nD τ).loc main_arg2)) (iblk m c 0 t) (k0_pay7 (m ((c : Thread nD τ).loc main_arg2)))

theorem pay4_add (v : FVec Ideal S1x2048 .f32) (w : IVec S1x2048 1) (a : Elt Ideal .f32) :
    k0_pay4 (F := Ideal) v w a = (a : EReal) + (k0_pay4 (F := Ideal) v w (FloatOps.ofBits .f32 0x00000000#32 : Ideal .f32) : EReal) := by
  unfold k0_pay4
  show (a : EReal) + _ = (a : EReal) + (Ideal.ofBits .f32 0x00000000#32 + _)
  rw [Ideal.ofBits_zero_f32, zero_add]

theorem pay5_add (w : IVec S1x2048 1) (a : Elt Ideal .f32) :
    k0_pay5 (F := Ideal) w a = (a : EReal) + (k0_pay5 (F := Ideal) w (FloatOps.ofBits .f32 0x00000000#32 : Ideal .f32) : EReal) := by
  unfold k0_pay5
  show (a : EReal) + _ = (a : EReal) + (Ideal.ofBits .f32 0x00000000#32 + _)
  rw [Ideal.ofBits_zero_f32, zero_add]

/-- What a block adds to the sum of the distances, and to the number of the points that count. -/
def s0 (c : Dev nD) (t : Fin cfg0.N) : EReal := k0_pay4 (F := Ideal) (dm m c t) (k0_pay12 (iblk m c 2 t)) (FloatOps.ofBits .f32 0x00000000#32 : Ideal .f32)
def s1 (c : Dev nD) (t : Fin cfg0.N) : EReal := k0_pay5 (F := Ideal) (k0_pay12 (iblk m c 2 t)) (FloatOps.ofBits .f32 0x00000000#32 : Ideal .f32)

theorem canon0 {a b : S1.Idx → Elt Ideal .f32} {l} (h0 h1) :
    View.canon (Val := Elt Ideal) (e := .f32) (⟨Rect.unit (s := S2) ![1] ![1] h1, b⟩ :: ⟨Rect.unit (s := S2) ![0] ![1] h0, a⟩ :: l) (ValueIdx.ix1 0) = a (ValueIdx.ix1 0) := by
  refine (View.canon_cons_of_not_mem _ _ (fun h => ?_)).trans ?_
  · exact Nat.zero_ne_one ((Rect.mem_set_cell (d := ![2]) (off := ![1]) (inb := h1)).1 h)
  have e : (ValueIdx.ix1 0 : S2.Idx) = (Rect.unit (s := S2) ![0] ![1] h0).emb (ValueIdx.ix1 0 : S1.Idx) := by
    funext i; fin_cases i; rfl
  rw [e]
  exact View.canon_cons_emb (Rect.unit (s := S2) ![0] ![1] h0) a l _

theorem canon1 {a b : S1.Idx → Elt Ideal .f32} {l} (h0 h1) :
    View.canon (Val := Elt Ideal) (e := .f32) (⟨Rect.unit (s := S2) ![1] ![1] h1, b⟩ :: ⟨Rect.unit (s := S2) ![0] ![1] h0, a⟩ :: l) (ValueIdx.ix1 1) = b (ValueIdx.ix1 0) := by
  have e : (ValueIdx.ix1 1 : S2.Idx) = (Rect.unit (s := S2) ![1] ![1] h1).emb (ValueIdx.ix1 0 : S1.Idx) := by
    funext i; fin_cases i; rfl
  rw [e]
  exact View.canon_cons_emb (Rect.unit (s := S2) ![1] ![1] h1) b _ _

theorem ld0 (X : Vec Ideal S2 .f32) (h0 : ∀ i, (![0] : Fin 1 → ℕ) i + (![1] : Fin 1 → ℕ) i ≤ S2.size i) (i) :
    View.ld X (Rect.unit (s := S2) ![0] ![1] h0) i = X (ValueIdx.ix1 0) := by
  refine View.ld_unit_apply_of X _ _ _ _ _ fun a => ?_
  fin_cases a
  have := (i 0).isLt
  show (0 : ℕ) = 0 + (i 0).val
  have h : (i 0).val < 1 := (i 0).isLt
  omega

theorem ld1 (X : Vec Ideal S2 .f32) (h0 : ∀ i, (![1] : Fin 1 → ℕ) i + (![1] : Fin 1 → ℕ) i ≤ S2.size i) (i) :
    View.ld X (Rect.unit (s := S2) ![1] ![1] h0) i = X (ValueIdx.ix1 1) := by
  refine View.ld_unit_apply_of X _ _ _ _ _ fun a => ?_
  fin_cases a
  have := (i 0).isLt
  show (1 : ℕ) = 1 + (i 0).val
  have h : (i 0).val < 1 := (i 0).isLt
  omega

theorem at_A (c : Dev nD) (t : Fin cfg0.N) (h0 : t.val % 9 = 0) (h1 : ¬t.val % 9 = 8) :
    (outsAt0 m c t.val t.isLt).2.2.2.1 = k0_pay7 (m ((c : Thread nD τ).loc main_arg2))
    ∧ (outsAt0 m c t.val t.isLt).1 = k0_pay1 (k0_pay13 (m ((c : Thread nD τ).loc main_arg2)) (iblk m c 0 t) (k0_pay7 (m ((c : Thread nD τ).loc main_arg2))) (iblk m c 2 t))
    ∧ (outsAt0 m c t.val t.isLt).2.1 = k0_pay2 (k0_pay11 (m ((c : Thread nD τ).loc main_arg2)) (iblk m c 0 t) (k0_pay7 (m ((c : Thread nD τ).loc main_arg2)))) (k0_pay12 (iblk m c 2 t))
    ∧ (outsAt0 m c t.val t.isLt).2.2.2.2 (ValueIdx.ix1 0) = s0 m c t
    ∧ (outsAt0 m c t.val t.isLt).2.2.2.2 (ValueIdx.ix1 1) = s1 m c t := by
  rw [outsAt0_A m c t h0 h1]
  refine ⟨?_, ?_, ?_, ?_, ?_⟩
  · frame_out
    rw [cb_eq]
  · frame_out
    rw [cb_eq]
  · frame_out
    rw [cb_eq]
  · frame_out
    refine (canon0 _ _).trans ?_
    rw [cb_eq]
    rfl
  · frame_out
    refine (canon1 _ _).trans ?_
    rfl

theorem at_B (c : Dev nD) (t : Fin cfg0.N) (h0 : ¬t.val % 9 = 0) (h1 : ¬t.val % 9 = 8)
    (hp : (outsAt0 m c (t.val - 1) (by omega)).2.2.2.1 = k0_pay7 (m ((c : Thread nD τ).loc main_arg2))) :
    (outsAt0 m c t.val t.isLt).2.2.2.1 = k0_pay7 (m ((c : Thread nD τ).loc main_arg2))
    ∧ (outsAt0 m c t.val t.isLt).1 = k0_pay1 (k0_pay13 (m ((c : Thread nD τ).loc main_arg2)) (iblk m c 0 t) (k0_pay7 (m ((c : Thread nD τ).loc main_arg2))) (iblk m c 2 t))
    ∧ (outsAt0 m c t.val t.isLt).2.1 = k0_pay2 (k0_pay11 (m ((c : Thread nD τ).loc main_arg2)) (iblk m c 0 t) (k0_pay7 (m ((c : Thread nD τ).loc main_arg2)))) (k0_pay12 (iblk m c 2 t))
    ∧ (outsAt0 m c t.val t.isLt).2.2.2.2 (ValueIdx.ix1 0) = (outsAt0 m c (t.val - 1) (by omega)).2.2.2.2 (ValueIdx.ix1 0) + s0 m c t
    ∧ (outsAt0 m c t.val t.isLt).2.2.2.2 (ValueIdx.ix1 1) = (outsAt0 m c (t.val - 1) (by omega)).2.2.2.2 (ValueIdx.ix1 1) + s1 m c t := by
  rw [outsAt0_B m c t h0 h1]
  refine ⟨?_, ?_, ?_, ?_, ?_⟩
  · frame_out
    exact hp
  · frame_out
    simp only [read_unread_whole]
    rw [cb_eq, hp]
  · frame_out
    simp only [read_unread_whole]
    rw [cb_eq, hp]
  · frame_out
    refine (canon0 _ _).trans ?_
    simp only [read_unread_whole]
    rw [cb_eq, hp, ld0, pay4_add]
    rfl
  · frame_out
    refine (canon1 _ _).trans ?_
    simp only [read_unread_whole]
    rw [ld1, pay5_add]
    rfl

theorem at_C (c : Dev nD) (t : Fin cfg0.N) (h0 : ¬t.val % 9 = 0) (h1 : t.val % 9 = 8)
    (hp : (outsAt0 m c (t.val - 1) (by omega)).2.2.2.1 = k0_pay7 (m ((c : Thread nD τ).loc main_arg2))) :
    (outsAt0 m c t.val t.isLt).1 = k0_pay1 (k0_pay13 (m ((c : Thread nD τ).loc main_arg2)) (iblk m c 0 t) (k0_pay7 (m ((c : Thread nD τ).loc main_arg2))) (iblk m c 2 t))
    ∧ (outsAt0 m c t.val t.isLt).2.1 = k0_pay2 (k0_pay11 (m ((c : Thread nD τ).loc main_arg2)) (iblk m c 0 t) (k0_pay7 (m ((c : Thread nD τ).loc main_arg2)))) (k0_pay12 (iblk m c 2 t))
    ∧ ∀ j, (outsAt0 m c t.val t.isLt).2.2.1 j = k0_pay6 (F := Ideal) ((outsAt0 m c (t.val - 1) (by omega)).2.2.2.2 (ValueIdx.ix1 0) + s0 m c t : EReal)
      ((outsAt0 m c (t.val - 1) (by omega)).2.2.2.2 (ValueIdx.ix1 1) + s1 m c t : EReal) := by
  rw [outsAt0_C m c t h0 h1]
  refine ⟨?_, ?_, ?_⟩
  · frame_out
    simp only [read_unread_whole]
    rw [cb_eq, hp]
  · frame_out
    simp only [read_unread_whole]
    rw [cb_eq, hp]
  · intro j
    frame_out
    simp only [read_unread_whole]
    rw [cb_eq, hp, ld0, ld1, pay4_add, pay5_add]
    rfl

/-- What every point leaves. -/
theorem at_all (c : Dev nD) : ∀ n (hn : n < cfg0.N), n < 8 →
    (outsAt0 m c n hn).2.2.2.1 = k0_pay7 (m ((c : Thread nD τ).loc main_arg2))
    ∧ (outsAt0 m c n hn).2.2.2.2 (ValueIdx.ix1 0) = ∑ s : Fin (n + 1), s0 m c ⟨s.val, by have := s.isLt; omega⟩
    ∧ (outsAt0 m c n hn).2.2.2.2 (ValueIdx.ix1 1) = ∑ s : Fin (n + 1), s1 m c ⟨s.val, by have := s.isLt; omega⟩ := by
  intro n
  induction n with
  | zero =>
    intro hn _
    have h := at_A m c ⟨0, hn⟩ rfl (Nat.zero_ne_add_one 7)
    refine ⟨h.1, ?_, ?_⟩
    · rw [Fin.sum_univ_one]; exact h.2.2.2.1
    · rw [Fin.sum_univ_one]; exact h.2.2.2.2
  | succ n ih =>
    intro hn h8
    obtain ⟨i1, i2, i3⟩ := ih (by omega) (by omega)
    have h := at_B m c ⟨n + 1, hn⟩ (by show ¬ (n + 1) % 9 = 0; omega) (by show ¬ (n + 1) % 9 = 8; omega) i1
    refine ⟨h.1, ?_, ?_⟩
    · rw [Fin.sum_univ_castSucc]; exact h.2.2.2.1.trans (congrArg (fun z : EReal => z + _) i2)
    · rw [Fin.sum_univ_castSucc]; exact h.2.2.2.2.trans (congrArg (fun z : EReal => z + _) i3)

/-- The indices every point stores. -/
theorem idx_all (c : Dev nD) (t : Fin cfg0.N) :
    (outsAt0 m c t.val t.isLt).1 = k0_pay1 (k0_pay13 (m ((c : Thread nD τ).loc main_arg2)) (iblk m c 0 t) (k0_pay7 (m ((c : Thread nD τ).loc main_arg2))) (iblk m c 2 t))
    ∧ (outsAt0 m c t.val t.isLt).2.1 = k0_pay2 (k0_pay11 (m ((c : Thread nD τ).loc main_arg2)) (iblk m c 0 t) (k0_pay7 (m ((c : Thread nD τ).loc main_arg2)))) (k0_pay12 (iblk m c 2 t)) := by
  have hN := lt_of_lt_of_eq t.isLt N_0
  by_cases h0 : t.val = 0
  · have h := at_A m c t (by omega) (by omega)
    exact ⟨h.2.1, h.2.2.1⟩
  · have i := (at_all m c (t.val - 1) (by omega) (by omega)).1
    by_cases h8 : t.val = 8
    · have h := at_C m c t (by omega) (by omega) i
      exact ⟨h.1, h.2.1⟩
    · have h := at_B m c t (by omega) (by omega) i
      exact ⟨h.2.1, h.2.2.1⟩

/-- The loss the last point stores. -/
theorem loss_last (c : Dev nD) (j) :
    (outsAt0 m c t0_8.val t0_8.isLt).2.2.1 j = k0_pay6 (F := Ideal) (∑ s : Fin 9, s0 m c ⟨s.val, lt_of_lt_of_eq s.isLt N_0.symm⟩ : EReal)
      (∑ s : Fin 9, s1 m c ⟨s.val, lt_of_lt_of_eq s.isLt N_0.symm⟩ : EReal) := by
  obtain ⟨i1, i2, i3⟩ := at_all m c 7 (by decide) (by decide)
  refine ((at_C m c t0_8 (by decide) (by decide) i1).2.2 j).trans ?_
  rw [Fin.sum_univ_castSucc, Fin.sum_univ_castSucc (n := 8)]
  exact congrArg₂ (fun y z : EReal => k0_pay6 (F := Ideal) (y + s0 m c t0_8 : EReal) (z + s1 m c t0_8 : EReal)) i2 i3

/-- The two indices of a point, as a block computes them. -/
def im (c : Dev nD) (t : Fin cfg0.N) (b : Fin 2048) : BitVec 32 :=
  k0_pay13 (m ((c : Thread nD τ).loc main_arg2)) (iblk m c 0 t) (k0_pay7 (m ((c : Thread nD τ).loc main_arg2))) (iblk m c 2 t) (ValueIdx.ix2 0 b)
def ig (c : Dev nD) (t : Fin cfg0.N) (b : Fin 2048) : BitVec 32 :=
  k0_pay2 (k0_pay11 (m ((c : Thread nD τ).loc main_arg2)) (iblk m c 0 t) (k0_pay7 (m ((c : Thread nD τ).loc main_arg2)))) (k0_pay12 (iblk m c 2 t)) (ValueIdx.ix3 0 0 b)

theorem pt_lt (i : S9x1x2048.Idx) : (i 0).val < cfg0.N := lt_of_lt_of_eq (i 0).isLt N_0.symm

theorem at_congr {α : Type} (f : Fin cfg0.N → Fin 2048 → α) (i : S9x1x2048.Idx) (t : Fin cfg0.N) (b : Fin 2048) (h0 : (i 0).val = t.val)
    (h2 : (i 2).val = b.val) : f t b = f ⟨(i 0).val, pt_lt i⟩ (i 2) :=
  congrArg₂ f (Fin.ext h0.symm) (Fin.ext h2.symm)

theorem pay1_apply (v : IVec S1x2048 32) (y : S1x1x2048.Idx) : k0_pay1 v y = v (ValueIdx.ix2 0 (y 2)) := by
  pointwise [k0_pay1]
  rfl

theorem pay2_apply (v : IVec S1x2048 32) (w : IVec S1x2048 1) (y : S1x1x2048.Idx) :
    k0_pay2 v w y = k0_pay2 v w (ValueIdx.ix3 0 0 (y 2)) := by
  pointwise [k0_pay2]

/-- The loss the kernel leaves. -/
theorem res5 (c : Dev nD) :
    (dats m 0 c).arrAt 5 cfg0.N = fun _ => k0_pay6 (F := Ideal) (∑ s : Fin 9, s0 m c ⟨s.val, lt_of_lt_of_eq s.isLt N_0.symm⟩ : EReal)
      (∑ s : Fin 9, s1 m c ⟨s.val, lt_of_lt_of_eq s.isLt N_0.symm⟩ : EReal) := by
  refine (dats m 0 c).arrAt_eq_of_after_last 5 t0_8 (by decide +kernel) _ fun j => ?_
  blk_simp
  rw [after0_5]
  exact loss_last m c _

end Cert.KerVal
end
-- ==== Proof.Scalar.lean ====
/- The arithmetic the two programs share, on extended reals: distances, the first least one, and words. -/
module

public import Idealize.ShloMosaic.PureOps.Ideal
public import Idealize.ShloMosaic.PureOps.Ideal.Laws
public import Idealize.ShloMosaic.Lib.StableHlo.Predicate
public import Mathlib.Algebra.BigOperators.Group.Finset.Basic
public import Mathlib.Data.EReal.Operations
public import Mathlib.Tactic.Ring

@[expose] public section

noncomputable section

namespace Cert.Scalar

open Idealize.ShloMosaic

theorem top_f32 : Ideal.ofBits .f32 0x7F800000#32 = ⊤ := by simp [Ideal.ofBits, Ideal.ieee]
theorem two_f32 : Ideal.ofBits .f32 0x40000000#32 = ((2 : ℝ) : EReal) := by
  simp [Ideal.ofBits, Ideal.ieee]; norm_num
  rw [← EReal.coe_mul]; norm_num
theorem negTwo_f32 : Ideal.ofBits .f32 0xC0000000#32 = ((-2 : ℝ) : EReal) := by
  simp [Ideal.ofBits, Ideal.ieee]; norm_num
  rw [← EReal.coe_mul]; norm_num
theorem codes_f32 : Ideal.ofBits .f32 0x44800000#32 = ((1024 : ℝ) : EReal) := by
  simp [Ideal.ofBits, Ideal.ieee]; norm_num
  rw [← EReal.coe_mul]; norm_num

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The squared distance of a point to a code. -/
def sq {n : ℕ} (x c : Fin n → ℝ) : ℝ := ∑ i, (x i - c i) * (x i - c i)

theorem sq_coe {n : ℕ} (x c : Fin n → ℝ) :
    ((sq x c : ℝ) : EReal) = ∑ i, ((x i : EReal) - (c i : EReal)) * ((x i : EReal) - (c i : EReal)) := by
  rw [sq, coe_sum]
  refine Finset.sum_congr rfl fun i _ => ?_
  rw [EReal.coe_mul, EReal.coe_sub]

/-- The distance as the kernel forms it. -/
theorem dist_kernel {n : ℕ} (x c : Fin n → ℝ) :
    ((∑ i, (x i : EReal) * (x i : EReal)) + ∑ i, (x i : EReal) * ((-2 : ℝ) : EReal) * (c i : EReal)) + ∑ i, (c i : EReal) * (c i : EReal)
      = ((sq x c : ℝ) : EReal) := by
  simp only [← EReal.coe_mul, ← coe_sum, ← EReal.coe_add]
  congr 1
  rw [sq, ← Finset.sum_add_distrib, ← Finset.sum_add_distrib]
  exact Finset.sum_congr rfl fun i _ => by ring

/-- The distance as the reference forms it. -/
theorem dist_reference {n : ℕ} (x c : Fin n → ℝ) :
    ((∑ i, (x i : EReal) * (x i : EReal)) - ((2 : ℝ) : EReal) * ∑ i, (x i : EReal) * (c i : EReal)) + ∑ i, (c i : EReal) * (c i : EReal)
      = ((sq x c : ℝ) : EReal) := by
  simp only [← EReal.coe_mul, ← coe_sum, ← EReal.coe_sub, ← EReal.coe_add]
  congr 1
  rw [sq, Finset.mul_sum, ← Finset.sum_sub_distrib, ← Finset.sum_add_distrib]
  exact Finset.sum_congr rfl fun i _ => by ring

/-- `k` is the first place of the least value. -/
def First {n : ℕ} (d : Fin n → EReal) (k : Fin n) : Prop := ∀ j, d k ≤ d j ∧ (d j = d k → k ≤ j)

theorem exists_first {n : ℕ} (hn : 0 < n) (d : Fin n → EReal) : ∃ k, First d k := by
  classical
  haveI : Nonempty (Fin n) := ⟨⟨0, hn⟩⟩
  obtain ⟨a, -, ha⟩ := Finset.exists_min_image Finset.univ d Finset.univ_nonempty
  have hne : (Finset.univ.filter fun j => d j = d a).Nonempty := ⟨a, by simp⟩
  refine ⟨(Finset.univ.filter fun j => d j = d a).min' hne, fun j => ?_⟩
  have hm : d ((Finset.univ.filter fun j => d j = d a).min' hne) = d a := by
    have := Finset.min'_mem _ hne
    simpa using this
  rw [hm]
  exact ⟨ha j (Finset.mem_univ j), fun h => Finset.min'_le _ _ (by simpa using h)⟩

/-- The least of a family, folded from +∞, is any member below all. -/
theorem fold_min {n : ℕ} (d : Fin n → EReal) (k : Fin n) (h : ∀ j, d k ≤ d j) : Finset.fold min ⊤ d Finset.univ = d k := by
  refine le_antisymm ?_ ?_
  · exact (Finset.fold_min_le (d k)).2 (Or.inr ⟨k, Finset.mem_univ k, le_rfl⟩)
  · exact (Finset.le_fold_min (d k)).2 ⟨le_top, fun j _ => h j⟩

/-- The least place among those at the least value. -/
theorem fold_first (d : Fin 1024 → EReal) (k : Fin 1024) (h : First d k) :
    Finset.fold min ⊤ (fun j : Fin 1024 => if d j = d k then ((j.val : ℝ) : EReal) else ((1024 : ℝ) : EReal)) Finset.univ = ((k.val : ℝ) : EReal) := by
  have e := fold_min (fun j : Fin 1024 => if d j = d k then ((j.val : ℝ) : EReal) else ((1024 : ℝ) : EReal)) k (fun j => by
    rw [if_pos rfl]
    split
    · next hj =>
      have : k.val ≤ j.val := (h j).2 hj
      exact EReal.coe_le_coe_iff.2 (by exact_mod_cast this)
    · have := k.isLt
      exact EReal.coe_le_coe_iff.2 (by exact_mod_cast this.le))
  rw [if_pos rfl] at e
  exact e

theorem sitofp_place (j : ℕ) (hj : j < 1024) : (FloatOps.sitofp .f32 (BitVec.ofNat 32 j) : Ideal .f32) = (((j : ℕ) : ℝ) : EReal) := by
  show (((BitVec.ofNat 32 j).toInt : ℝ) : EReal) = _
  rw [StableHlo.Predicate.toInt_ofNat_small j (by omega)]
  simp

theorem fptosi_place (k : ℕ) (hk : k < 1024) : (FloatOps.fptosi (F := Ideal) (φ := .f32) 32 (((k : ℝ) : EReal) : Ideal .f32)) = BitVec.ofNat 32 k := by
  show Ideal.fptosi 32 ((k : ℝ) : EReal) = _
  rw [Ideal.fptosi, Ideal.toIntClamped_coe, if_pos (Nat.cast_nonneg k), Int.floor_natCast]
  rw [min_eq_right (by norm_num; omega), max_eq_right (by norm_num)]
  exact BitVec.ofInt_natCast 32 k

/-- The weight of a point, either way it is made from its bit. -/
theorem weight (v : BitVec 1) : (FloatOps.sitofp .f32 (BitVec.setWidth 32 v) : Ideal .f32) = (FloatOps.uitofp .f32 v : Ideal .f32) := by
  show (((BitVec.setWidth 32 v).toInt : ℝ) : EReal) = ((v.toNat : ℝ) : EReal)
  have : v = 0#1 ∨ v = 1#1 := by revert v; decide
  rcases this with rfl | rfl <;> simp

theorem weight_coe (v : BitVec 1) : (FloatOps.uitofp .f32 v : Ideal .f32) = ((v.toNat : ℝ) : EReal) := rfl

/-- A list folded with an operation that keeps the best of any two pairs. -/
theorem foldl_best {α : Type} (f : α → α → α) (best : α) (W : α → Prop) (h1 : ∀ p, W p → f best p = best) (h2 : ∀ p, W p → f p best = best)
    (h3 : f best best = best) (h4 : ∀ p q, W p → W q → W (f p q)) :
    ∀ (L : List α), (∀ p ∈ L, p = best ∨ W p) → ∀ acc, (acc = best ∨ (W acc ∧ best ∈ L)) → L.foldl f acc = best := by
  intro L
  induction L with
  | nil =>
    intro _ acc h
    rcases h with h | h
    · exact h
    · exact absurd h.2 List.not_mem_nil
  | cons p L ih =>
    intro hL acc h
    rw [List.foldl_cons]
    refine ih (fun q hq => hL q (List.mem_cons_of_mem _ hq)) _ ?_
    have hp := hL p List.mem_cons_self
    rcases h with rfl | ⟨hw, hm⟩
    · rcases hp with rfl | hp
      · exact Or.inl h3
      · exact Or.inl (h1 p hp)
    · rcases hp with rfl | hp
      · exact Or.inl (h2 acc hw)
      · rcases List.mem_cons.1 hm with rfl | hm
        · exact Or.inl (h2 acc hw)
        · exact Or.inr ⟨h4 acc p hw hp, hm⟩

end Cert.Scalar
end
-- ==== Proof.KerPay.lean ====
/- The kernel's block functions at an entry, over real points and real codes. -/
module

public import proofs.«01_k».proof.Proof.KerVal
public import proofs.«01_k».proof.Proof.Scalar
public import Idealize.ShloMosaic.Lib.Pointwise

@[expose] public section

set_option maxRecDepth 16384

noncomputable section

namespace Cert.KerPay

open Idealize.ShloMosaic Idealize.SL.Sem Cert.KernelIdeal Cert.KernelIdeal.Gen Cert.Scalar

variable (cb : FVec Ideal S1024x256 .f32) (x : FVec Ideal S2048x256 .f32) (w : FVec Ideal S1x1x2048 .f32)

theorem dist_read (r : Fin 2048) (k : Fin 1024) :
    k0_pay8 (F := Ideal) cb x (k0_pay7 (F := Ideal) cb) (ValueIdx.ix2 r k)
      = (∑ i : Fin 256, (x (ValueIdx.ix2 r i) : EReal) * x (ValueIdx.ix2 r i)
          + ∑ i : Fin 256, (x (ValueIdx.ix2 r i) : EReal) * Ideal.ofBits .f32 0xC0000000#32 * cb (ValueIdx.ix2 k i))
        + ∑ i : Fin 256, (cb (ValueIdx.ix2 k i) : EReal) * cb (ValueIdx.ix2 k i) := by
  pointwise [k0_pay8, k0_pay7]
  rfl

theorem least_read (n : FVec Ideal S1x1024 .f32) (b : Fin 2048) :
    k0_pay10 (F := Ideal) cb x n (ValueIdx.ix2 0 b)
      = Finset.fold min (Ideal.ofBits .f32 0x7F800000#32) (fun k : Fin 1024 => (k0_pay8 (F := Ideal) cb x n (ValueIdx.ix2 b k) : EReal)) Finset.univ := by
  pointwise [k0_pay10, k0_pay9]
  rfl

theorem place_read (n : FVec Ideal S1x1024 .f32) (b : Fin 2048) :
    k0_pay11 (F := Ideal) cb x n (ValueIdx.ix2 0 b)
      = FloatOps.fptosi (F := Ideal) (φ := .f32) 32 (Finset.fold min (Ideal.ofBits .f32 0x7F800000#32) (fun k : Fin 1024 =>
          if (k0_pay8 (F := Ideal) cb x n (ValueIdx.ix2 b k) : EReal)
            = Finset.fold min (Ideal.ofBits .f32 0x7F800000#32) (fun k : Fin 1024 => (k0_pay8 (F := Ideal) cb x n (ValueIdx.ix2 b k) : EReal)) Finset.univ
          then (FloatOps.sitofp .f32 (BitVec.ofNat 32 k.val) : Ideal .f32) else Ideal.ofBits .f32 0x44800000#32) Finset.univ) := by
  pointwise [k0_pay11, k0_pay9]
  rfl

theorem bit_read (b : Fin 2048) :
    k0_pay12 (F := Ideal) w (ValueIdx.ix2 0 b) = BitVec.ofBool (decide (Ideal.ofBits .f32 0x3F000000#32 < w (ValueIdx.ix3 0 0 b))) := by
  pointwise [k0_pay12]
  rfl

theorem masked_read (n : FVec Ideal S1x1024 .f32) (b : Fin 2048) :
    k0_pay13 (F := Ideal) cb x n w (ValueIdx.ix2 0 b)
      = Scalar.select (k0_pay12 (F := Ideal) w (ValueIdx.ix2 0 b)) (k0_pay11 (F := Ideal) cb x n (ValueIdx.ix2 0 b)) 0#32 := by
  pointwise [k0_pay13]

theorem guarded_read (v : IVec S1x2048 32) (u : IVec S1x2048 1) (b : Fin 2048) :
    k0_pay2 v u (ValueIdx.ix3 0 0 b) = Scalar.select (u (ValueIdx.ix2 0 b)) (v (ValueIdx.ix2 0 b)) 1024#32 := by
  pointwise [k0_pay2]
  rfl

theorem num_read (v : FVec Ideal S1x2048 .f32) (u : IVec S1x2048 1) :
    (k0_pay4 (F := Ideal) v u (FloatOps.ofBits .f32 0x00000000#32 : Ideal .f32) : EReal)
      = ∑ b : Fin 2048, (v (ValueIdx.ix2 0 b) : EReal) * (FloatOps.uitofp .f32 (u (ValueIdx.ix2 0 b)) : Ideal .f32) := by
  have e : (k0_pay4 (F := Ideal) v u (FloatOps.ofBits .f32 0x00000000#32 : Ideal .f32) : EReal)
      = ∑ _a : Fin 1, ∑ b : Fin 2048, (v (ValueIdx.ix2 0 b) : EReal) * (FloatOps.sitofp .f32 (BitVec.setWidth 32 (u (ValueIdx.ix2 0 b))) : Ideal .f32) := by
    pointwise [k0_pay4, k0_pay3]
    rfl
  rw [e, Fin.sum_univ_one]
  exact Finset.sum_congr rfl fun b _ => congrArg _ (weight _)

theorem den_read (u : IVec S1x2048 1) :
    (k0_pay5 (F := Ideal) u (FloatOps.ofBits .f32 0x00000000#32 : Ideal .f32) : EReal)
      = ∑ b : Fin 2048, ((FloatOps.uitofp .f32 (u (ValueIdx.ix2 0 b)) : Ideal .f32) : EReal) := by
  have e : (k0_pay5 (F := Ideal) u (FloatOps.ofBits .f32 0x00000000#32 : Ideal .f32) : EReal)
      = ∑ _a : Fin 1, ∑ b : Fin 2048, ((FloatOps.sitofp .f32 (BitVec.setWidth 32 (u (ValueIdx.ix2 0 b))) : Ideal .f32) : EReal) := by
    pointwise [k0_pay5, k0_pay3]
    rfl
  rw [e, Fin.sum_univ_one]
  exact Finset.sum_congr rfl fun b _ => weight _

theorem mean_read (a b : Elt Ideal .f32) :
    k0_pay6 (F := Ideal) a b = Ideal.div (Ideal.ofBits .f32 0x3E800000#32 * a) (b * Ideal.ofBits .f32 0x43800000#32) := by
  first | rfl | (pointwise [k0_pay6]; done) | (pointwise [k0_pay6]; rfl)

variable {cb x} {r : Fin 2048} {xr : Fin 256 → ℝ} {c : Fin 1024 → Fin 256 → ℝ}
  (hx : ∀ i, x (ValueIdx.ix2 r i) = ((xr i : ℝ) : EReal)) (hc : ∀ k i, cb (ValueIdx.ix2 k i) = ((c k i : ℝ) : EReal))

include hx hc

theorem dist_eq (k : Fin 1024) : (k0_pay8 (F := Ideal) cb x (k0_pay7 (F := Ideal) cb) (ValueIdx.ix2 r k) : EReal) = ((sq xr (c k) : ℝ) : EReal) := by
  rw [dist_read, negTwo_f32]
  simp only [hx, hc]
  exact dist_kernel xr (c k)

theorem least_eq (k : Fin 1024) (hk : First (fun j => ((sq xr (c j) : ℝ) : EReal)) k) :
    (k0_pay10 (F := Ideal) cb x (k0_pay7 (F := Ideal) cb) (ValueIdx.ix2 0 r) : EReal) = ((sq xr (c k) : ℝ) : EReal) := by
  rw [least_read, top_f32]
  simp only [dist_eq hx hc]
  exact fold_min _ k fun j => (hk j).1

theorem place_eq (k : Fin 1024) (hk : First (fun j => ((sq xr (c j) : ℝ) : EReal)) k) :
    k0_pay11 (F := Ideal) cb x (k0_pay7 (F := Ideal) cb) (ValueIdx.ix2 0 r) = BitVec.ofNat 32 k.val := by
  rw [place_read, top_f32, codes_f32]
  have hm : Finset.fold min ⊤ (fun k : Fin 1024 => (k0_pay8 (F := Ideal) cb x (k0_pay7 (F := Ideal) cb) (ValueIdx.ix2 r k) : EReal)) Finset.univ
      = ((sq xr (c k) : ℝ) : EReal) := by
    simp only [dist_eq hx hc]
    exact fold_min (fun j => ((sq xr (c j) : ℝ) : EReal)) k fun j => (hk j).1
  rw [hm, ← fptosi_place k.val k.isLt]
  refine congrArg (FloatOps.fptosi (F := Ideal) (φ := .f32) 32) ?_
  refine Eq.trans ?_ (fold_first (fun j => ((sq xr (c j) : ℝ) : EReal)) k hk)
  refine Finset.fold_congr fun j _ => ?_
  rw [dist_eq hx hc j, sitofp_place j.val j.isLt]

end Cert.KerPay
end
-- ==== Proof.KerRes.lean ====
/- What the kernel leaves in its output windows and in its scratch after each grid point. -/
module

public import proofs.«01_k».proof.Proof.KerVal
public import Idealize.ShloMosaic.Lib.Pipeline.ValueKit
public import Idealize.ShloMosaic.Lib.Pipeline.ReadBack
public import Idealize.ShloMosaic.Lib.Claim
public import Idealize.ShloMosaic.Lib.CellWrites
public import Idealize.ShloMosaic.Lib.Pointwise

@[expose] public section

set_option maxRecDepth 16384

noncomputable section

namespace Cert.KerVal

open Idealize.ShloMosaic Idealize.ShloMosaic.TcCoe Idealize.SL.Sem Cert.KernelIdeal Cert.KernelIdeal.Gen

variable (m : (ℓ : Loc nD τ sig) → Buf (Elt Ideal) ℓ)

/-- A pair of point and place as a result's index. -/
def arr (f : Fin cfg0.N → Fin 2048 → BitVec 32) : S9x1x2048.Idx → BitVec 32 := fun i => f ⟨(i 0).val, pt_lt i⟩ (i 2)

theorem emb3 (t : Fin cfg0.N) (y : S1x1x2048.Idx) :
    ((((cfg0.win 3).blk t).view.emb y : S9x1x2048.Idx) 0).val = t.val ∧ ((((cfg0.win 3).blk t).view.emb y : S9x1x2048.Idx) 2).val = (y 2).val := by
  constructor
  · blk_simp [idx t]
  · blk_simp [idx t]

theorem aft3 (c : Dev nD) (t : Fin cfg0.N) (y : S1x1x2048.Idx) : (dats m 0 c).after 3 t y = im m c t (y 2) := by
  rw [after0_3, (idx_all m c t).1]
  exact pay1_apply _ y

theorem res3 (c : Dev nD) (t : Fin 9) (b : Fin 2048) :
    (dats m 0 c).arrAt 3 cfg0.N (ValueIdx.ix3 t 0 b) = im m c ⟨t.val, lt_of_lt_of_eq t.isLt N_0.symm⟩ b := by
  have h := (dats m 0 c).arrAt_eq_of_covers 3 (arr (im m c)) (by decide +kernel) (fun t hf y => by
    blk_simp
    refine (aft3 m c t y).trans ?_
    exact at_congr (im m c) (((cfg0.win 3).blk t).view.emb y) t (y 2) (emb3 t y).1 (emb3 t y).2)
  exact congrFun h _

theorem emb4 (t : Fin cfg0.N) (y : S1x1x2048.Idx) :
    ((((cfg0.win 4).blk t).view.emb y : S9x1x2048.Idx) 0).val = t.val ∧ ((((cfg0.win 4).blk t).view.emb y : S9x1x2048.Idx) 2).val = (y 2).val := by
  constructor
  · blk_simp [idx t]
  · blk_simp [idx t]

theorem aft4 (c : Dev nD) (t : Fin cfg0.N) (y : S1x1x2048.Idx) : (dats m 0 c).after 4 t y = ig m c t (y 2) := by
  rw [after0_4, (idx_all m c t).2]
  exact pay2_apply _ _ y

theorem res4 (c : Dev nD) (t : Fin 9) (b : Fin 2048) :
    (dats m 0 c).arrAt 4 cfg0.N (ValueIdx.ix3 t 0 b) = ig m c ⟨t.val, lt_of_lt_of_eq t.isLt N_0.symm⟩ b := by
  have h := (dats m 0 c).arrAt_eq_of_covers 4 (arr (ig m c)) (by decide +kernel) (fun t hf y => by
    blk_simp
    refine (aft4 m c t y).trans ?_
    exact at_congr (ig m c) (((cfg0.win 4).blk t).view.emb y) t (y 2) (emb4 t y).1 (emb4 t y).2)
  exact congrFun h _

end Cert.KerVal
end
-- ==== Proof.RefRun.lean ====
/- The reference's run: it terminates with every counter at zero and its arguments unchanged, and each of its results
   is the composition of its host operations over the launch contents of its arguments. -/
module

public import proofs.«01_k».proof.Defs
public import proofs.«01_k».proof.Proof.Gen.ReferenceIdeal
public import Idealize.ShloMosaic.Lib.Claim
public import Idealize.ShloMosaic.Lib.Quiescent

@[expose] public section

noncomputable section

namespace Cert.RefRun

open Idealize.ShloMosaic Idealize.SL.Sem Cert.ReferenceIdeal Cert.ReferenceIdeal.Gen

/-- The points as rows. -/
def flat (x : FVec Ideal S32x576x256 .f32) : FVec Ideal S18432x256 .f32 :=
  shapeCast S18432x256 x shapeCasts_S32x576x256_S18432x256

/-- Which points count. -/
def valid (mk : FVec Ideal S32x576 .f32) : IVec S18432 1 :=
  cmpf .ogt (shapeCast S18432 mk shapeCasts_S32x576_S18432) (broadcastInDim S18432 ![] bcast_S_S18432 (constant S_ .f32 0x3F000000#32))

/-- The distances of every point to every code. -/
def dist (fx : FVec Ideal S18432x256 .f32) (cb : FVec Ideal S1024x256 .f32) : FVec Ideal S18432x1024 .f32 :=
  addf
    (subf
      (broadcastInDim S18432x1024 ![0, 1] bcast_S18432x1_S18432x1024_0_1
        (broadcastInDim S18432x1 ![0] bcast_S18432_S18432x1_0
          (Host.reduceAdd (mulf fx fx) (constant S_ .f32 0x00000000#32) reducesTo_S18432x256_S18432_d1 h_S_)))
      (mulf (broadcastInDim S18432x1024 ![] bcast_S_S18432x1024 (constant S_ .f32 0x40000000#32))
        (Host.dotGeneral dot_S18432x256_S256x1024_S18432x1024_1_0_0_1_n_n none fx
          (transpose S256x1024 [1, 0] cb transposes_S1024x256_S256x1024_1_0))))
    (broadcastInDim S18432x1024 ![0, 1] bcast_S1x1024_S18432x1024_0_1
      (broadcastInDim S1x1024 ![1] bcast_S1024_S1x1024_1
        (Host.reduceAdd (mulf cb cb) (constant S_ .f32 0x00000000#32) reducesTo_S1024x256_S1024_d1 h_S_)))

/-- The first code at the least distance. -/
def arg (d : FVec Ideal S18432x1024 .f32) : IVec S18432 32 := fun j =>
  (Host.argReduce reducer_argmin_f32_i32 d (iotaInDim S18432x1024 32 1) (constant S_ .f32 0x7F800000#32) (constantI S_ 32 0#32)
    reducesTo_S18432x1024_S18432_d1 h_S_ j).2

/-- The rows looked up, as the library function does it. -/
def taken (cb : FVec Ideal S1024x256 .f32) (ix : IVec S18432 32) : FVec Ideal S18432x256 .f32 :=
  let i1 : IVec S18432x1 32 := broadcastInDim S18432x1 ![0] bcast_S18432_S18432x1_0
    (select (cmpi .slt ix (broadcastInDim S18432 ![] bcast_S_S18432 (constantI S_ 32 0#32)))
      (addi ix (broadcastInDim S18432 ![] bcast_S_S18432 (constantI S_ 32 1024#32))) ix)
  select
    (broadcastInDim S18432x256 ![0] bcast_S18432_S18432x256_0
      (Host.reduce IntOp.andi
        (andi (cmpi .sge i1 (broadcastInDim S18432x1 ![] bcast_S_S18432x1 (constantI S_ 32 0#32)))
          (cmpi .sle i1 (broadcastInDim S18432x1 ![0, 1] bcast_S1x1_S18432x1_0_1
            (broadcastInDim S1x1 ![1] bcast_S1_S1x1_1 (constantI S1 32 1023#32)))))
        (constantI S_ 1 1#1) reducesTo_S18432x1_S18432_d1 h_S_))
    (Host.gather gather_S1024x256_S18432x1_S18432x256_1_0_n_n_0_1_1256 cb i1)
    (broadcastInDim S18432x256 ![] bcast_S_S18432x256 (constant S_ .f32 0x7FC00000#32))

/-- The loss, from the rows looked up. -/
def loss (fx q : FVec Ideal S18432x256 .f32) (v : IVec S18432 1) : FVec Ideal S_ .f32 :=
  let mf : FVec Ideal S18432x1 .f32 := broadcastInDim S18432x1 ![0] bcast_S18432_S18432x1_0 (uitofp .f32 v)
  mulf (constant S_ .f32 0x3E800000#32)
    (Host.divf
      (Host.reduceAdd (mulf (mulf (subf fx q) (subf fx q))
          (broadcastInDim S18432x256 ![0, 1] bcast_S18432x1_S18432x256_0_1 mf))
        (constant S_ .f32 0x00000000#32) reducesTo_S18432x256_S_d0_1 h_S_)
      (mulf (Host.reduceAdd mf (constant S_ .f32 0x00000000#32) reducesTo_S18432x1_S_d0_1 h_S_)
        (constant S_ .f32 0x43800000#32)))

/-- The index of a point that counts, `k` at the others. -/
def guarded (v : IVec S18432 1) (ix : IVec S18432 32) (k : BitVec 32) : IVec S18432 32 :=
  select v ix (broadcastInDim S18432 ![] bcast_S_S18432 (constantI S_ 32 k))

set_option maxRecDepth 20000 in
set_option maxHeartbeats 4000000 in
/-- The run, at any launch memory. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v33)
        = shapeCast S9x1x2048 (guarded (valid (m ((c.tc : Thread nD τ).loc main_arg1)))
            (arg (dist (flat (m ((c.tc : Thread nD τ).loc main_arg0))) (m ((c.tc : Thread nD τ).loc main_arg2)))) 0#32) shapeCasts_S18432_S9x1x2048
      ∧ r.2.mem ((c.tc : Thread nD τ).loc main_v34)
        = shapeCast S9x1x2048 (guarded (valid (m ((c.tc : Thread nD τ).loc main_arg1)))
            (arg (dist (flat (m ((c.tc : Thread nD τ).loc main_arg0))) (m ((c.tc : Thread nD τ).loc main_arg2)))) 1024#32) shapeCasts_S18432_S9x1x2048
      ∧ r.2.mem ((c.tc : Thread nD τ).loc main_v35)
        = shapeCast S1 (loss (flat (m ((c.tc : Thread nD τ).loc main_arg0)))
            (taken (m ((c.tc : Thread nD τ).loc main_arg2))
              (arg (dist (flat (m ((c.tc : Thread nD τ).loc main_arg0))) (m ((c.tc : Thread nD τ).loc main_arg2)))))
            (valid (m ((c.tc : Thread nD τ).loc main_arg1)))) shapeCasts_S_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals simp only [StableHlo.TRef.ofBuf_toBuf]
  all_goals simp only [StableHlo.TRef.ofBuf, StableHlo.TRef.toBuf, cast_eq]
  · rfl
  · rfl
  · rfl

/-- The reference is quiescent. -/
theorem frame : Cert.quiescent_ReferenceIdeal (hReferenceIdeal := Cert.ReferenceIdeal.Gen.facts) := fun m g _ =>
  (θ_run defs _ _).mono (fun r h => ⟨fun c => (h c).2.2.2, Idealize.ShloMosaic.sem_eq_zero_of_no_sems (by decide) r.2⟩) (run m g)

end Cert.RefRun
end
-- ==== Proof.RefArg.lean ====
/- The reference's arg-min at an entry. -/
module

public import proofs.«01_k».proof.Proof.RefRun
public import proofs.«01_k».proof.Proof.Scalar
public import Idealize.ShloMosaic.Lib.Pointwise
public import Idealize.ShloMosaic.Lib.ReduceAll
public import Idealize.ShloMosaic.PureOps.Reduce

@[expose] public section

set_option maxRecDepth 16384

noncomputable section

namespace Cert.RefVal

open Idealize.ShloMosaic Idealize.SL.Sem Cert.ReferenceIdeal Cert.ReferenceIdeal.Gen Cert.RefRun Cert.Scalar

theorem red_eq (a b : Ideal .f32 × BitVec 32) :
    reducer_argmin_f32_i32 a b = if (a.1 : EReal) < b.1 ∨ ((a.1 : EReal) = b.1 ∧ a.2.slt b.2 = true) then a else b := by
  obtain ⟨a1, a2⟩ := a
  obtain ⟨b1, b2⟩ := b
  have hlt : (FloatOps.cmpf .olt a1 b1 : BitVec 1) = BitVec.ofBool (decide ((a1 : EReal) < b1)) := by
    rw [Ideal.cmpf_def]; rfl
  have hne : (FloatOps.cmpf .une a1 a1 : BitVec 1) = 0#1 := by
    rw [Ideal.cmpf_def]; simp [Ideal.cmp]
  have heq : (FloatOps.cmpf .oeq a1 b1 : BitVec 1) = BitVec.ofBool (decide ((a1 : EReal) = b1)) := by
    rw [Ideal.cmpf_def]; rfl
  have hs : IntOp.cmpi .slt a2 b2 = BitVec.ofBool (a2.slt b2) := rfl
  unfold reducer_argmin_f32_i32
  simp only [hlt, hne, heq, hs]
  by_cases h1 : (a1 : EReal) < b1
  · have h1' : (FloatOps.cmpf .olt a1 b1 : BitVec 1) = 1#1 := by rw [hlt]; simp [h1]
    have h2 : ¬(a1 : EReal) = b1 := h1.ne
    rw [if_pos (Or.inl h1)]
    cases a2.slt b2 <;> simp [h1, h2, IntOp.ori, IntOp.andi, Scalar.select]
  · by_cases h2 : (a1 : EReal) = b1
    · cases h3 : a2.slt b2 <;> simp [h1, h2, IntOp.ori, IntOp.andi, Scalar.select]
    · simp [h1, h2, IntOp.ori, IntOp.andi, Scalar.select]

theorem mem_fiber {α β : Type} {s t : Shape} {axes : List (Fin s.rank)} {K : ℕ} (x : s.Idx → α) (y : s.Idx → β)
    (h : s.ReducesTo axes t) (j : t.Idx) (e : Fin K → s.Idx) (he : ∀ i, h.drop i = j ↔ ∃ k, i = e k) (p : α × β) :
    p ∈ Host.argReduceFiber x y h j ↔ ∃ k : Fin K, p = (x (e k), y (e k)) := by
  unfold Host.argReduceFiber
  rw [List.mem_map]
  constructor
  · rintro ⟨n, hn, rfl⟩
    have hn := of_decide_eq_true (List.mem_filter.1 hn).2
    obtain ⟨k, hk⟩ := (he _).1 hn
    exact ⟨k, by rw [hk]⟩
  · rintro ⟨k, rfl⟩
    refine ⟨s.rowMajor (e k), List.mem_filter.2 ⟨List.mem_finRange _, ?_⟩, ?_⟩
    · rw [Equiv.symm_apply_apply]; exact decide_eq_true ((he _).2 ⟨k, rfl⟩)
    · rw [Equiv.symm_apply_apply]

theorem first_least {s t u : Shape} {axes : List (Fin s.rank)} {K : ℕ} (hK : K < 2 ^ 31) (d : FVec Ideal s .f32) (y : s.Idx → BitVec 32)
    (ix : FVec Ideal u .f32) (iy : u.Idx → BitVec 32)
    (h : s.ReducesTo axes t) (hu : 0 < u.numel) (j : t.Idx) (e : Fin K → s.Idx) (he : ∀ i, h.drop i = j ↔ ∃ k, i = e k)
    (hy : ∀ k, y (e k) = BitVec.ofNat 32 k.val) (hi : (ix (Shape.Idx.first hu) : EReal) = ⊤) (k : Fin K) (hk : First (fun j => (d (e j) : EReal)) k)
    (hf : (d (e k) : EReal) < ⊤) :
    (Host.argReduce reducer_argmin_f32_i32 d y ix iy h hu j).2 = BitVec.ofNat 32 k.val := by
  rw [Ideal.argReduce_eq_reduce2, Host.reduce2_eq_foldl_fiber]
  have hw : ∀ j : Fin K, k < j → (BitVec.ofNat 32 k.val).slt (BitVec.ofNat 32 j.val) = true := fun j hj =>
    (StableHlo.Predicate.ofBool_eq_one_iff _).1 ((StableHlo.Predicate.slt_ofNat_iff k.val j.val (by omega) (by omega)).2 hj)
  have key : ∀ p : Ideal .f32 × BitVec 32, ((d (e k) : EReal) < p.1 ∨ ((d (e k) : EReal) = p.1 ∧ (BitVec.ofNat 32 k.val).slt p.2 = true)) →
      reducer_argmin_f32_i32 p (d (e k), BitVec.ofNat 32 k.val) = (d (e k), BitVec.ofNat 32 k.val) := by
    intro p hp
    rw [red_eq, if_neg]
    rintro (h | ⟨h, h'⟩)
    · rcases hp with hp | hp
      · exact absurd (lt_trans hp h) (lt_irrefl _)
      · exact absurd (hp.1 ▸ h) (lt_irrefl _)
    · rcases hp with hp | hp
      · exact absurd (h ▸ hp) (lt_irrefl _)
      · have h2 := hp.2
        simp only [BitVec.slt, decide_eq_true_eq] at h' h2
        omega
  refine congrArg Prod.snd (foldl_best reducer_argmin_f32_i32 (d (e k), BitVec.ofNat 32 k.val)
    (fun p => (d (e k) : EReal) < p.1 ∨ ((d (e k) : EReal) = p.1 ∧ (BitVec.ofNat 32 k.val).slt p.2 = true)) ?_ key ?_ ?_ _ ?_ _ ?_)
  · intro p hp
    rw [red_eq, if_pos hp]
  · rw [red_eq]; split <;> rfl
  · intro p q hp hq
    rw [red_eq]; split
    · exact hp
    · exact hq
  · intro p hp
    obtain ⟨j, rfl⟩ := (mem_fiber _ _ h _ e he p).1 hp
    rw [hy]
    rcases (hk j).1.lt_or_eq with h | h
    · exact Or.inr (Or.inl h)
    · rcases ((hk j).2 h.symm).lt_or_eq with h' | h'
      · exact Or.inr (Or.inr ⟨h, hw j h'⟩)
      · subst h'; exact Or.inl rfl
  · refine Or.inr ⟨Or.inl ?_, ?_⟩
    · show (d (e k) : EReal) < ix (Shape.Idx.first hu)
      rw [hi]; exact hf
    · exact (mem_fiber _ _ h _ e he _).2 ⟨k, by rw [hy]⟩

theorem drop_iff (r : Fin 18432) (i : S18432x1024.Idx) :
    reducesTo_S18432x1024_S18432_d1.drop i = ValueIdx.ix1 r ↔ ∃ k : Fin 1024, i = ValueIdx.ix2 r k := by
  have e : (reducesTo_S18432x1024_S18432_d1.drop i 0).val = (i 0).val :=
    Shape.ReducesTo.drop_apply_val_of_eq reducesTo_S18432x1024_S18432_d1 i 0 0
  constructor
  · intro hd
    rw [hd] at e
    refine ⟨i 1, ?_⟩
    funext a
    match a with
    | 0 => exact Fin.ext e.symm
    | 1 => rfl
  · rintro ⟨k, rfl⟩
    funext a
    match a with
    | 0 => exact Fin.ext e

theorem arg_def (d : FVec Ideal S18432x1024 .f32) : arg d = fun j =>
    (Host.argReduce reducer_argmin_f32_i32 d (iotaInDim S18432x1024 32 1) (constant S_ .f32 0x7F800000#32) (constantI S_ 32 0#32)
      reducesTo_S18432x1024_S18432_d1 h_S_ j).2 := by
  delta arg; rfl

theorem raw_eq (d : FVec Ideal S18432x1024 .f32) (r : Fin 18432) (k : Fin 1024) (hk : First (fun j => (d (ValueIdx.ix2 r j) : EReal)) k)
    (hf : (d (ValueIdx.ix2 r k) : EReal) < ⊤) :
    (Host.argReduce reducer_argmin_f32_i32 d (iotaInDim S18432x1024 32 1) (constant S_ .f32 0x7F800000#32) (constantI S_ 32 0#32)
      reducesTo_S18432x1024_S18432_d1 h_S_ (ValueIdx.ix1 r)).2 = BitVec.ofNat 32 k.val :=
  first_least (K := 1024) (by decide) d (iotaInDim S18432x1024 32 1) (constant S_ .f32 0x7F800000#32) (constantI S_ 32 0#32)
    reducesTo_S18432x1024_S18432_d1 h_S_ (ValueIdx.ix1 r) (fun k => ValueIdx.ix2 r k) (drop_iff r) (fun _ => rfl) top_f32 k hk hf

theorem arg_eq (d : FVec Ideal S18432x1024 .f32) (r : Fin 18432) (k : Fin 1024) (hk : First (fun j => (d (ValueIdx.ix2 r j) : EReal)) k)
    (hf : (d (ValueIdx.ix2 r k) : EReal) < ⊤) : arg d (ValueIdx.ix1 r) = BitVec.ofNat 32 k.val :=
  (congrFun (arg_def d) (ValueIdx.ix1 r)).trans (raw_eq d r k hk hf)

end Cert.RefVal
end
-- ==== Proof.RefVal.lean ====
/- The reference's results at an entry. -/
module

public import proofs.«01_k».proof.Proof.RefRun
public import proofs.«01_k».proof.Proof.RefArg
public import Idealize.ShloMosaic.Lib.Pointwise
public import Idealize.ShloMosaic.Lib.ReduceAll
public import Idealize.ShloMosaic.PureOps.Reduce

@[expose] public section

set_option maxRecDepth 16384

noncomputable section

namespace Cert.RefVal

open Idealize.ShloMosaic Idealize.SL.Sem Cert.ReferenceIdeal Cert.ReferenceIdeal.Gen Cert.RefRun Cert.Scalar

theorem valid_apply (w : FVec Ideal S32x576 .f32) (r : Fin 18432) :
    valid w (ValueIdx.ix1 r) = BitVec.ofBool (decide (Ideal.ofBits .f32 0x3F000000#32
      < w (ValueIdx.ix2 ⟨r.val / 576, by omega⟩ ⟨r.val % 576, Nat.mod_lt _ (by decide)⟩))) := by
  pointwise [valid]
  rfl

theorem dist_apply (fx : FVec Ideal S18432x256 .f32) (cb : FVec Ideal S1024x256 .f32) (r : Fin 18432) (k : Fin 1024) (x c : Fin 256 → ℝ)
    (hx : ∀ i, fx (ValueIdx.ix2 r i) = ((x i : ℝ) : EReal)) (hc : ∀ i, cb (ValueIdx.ix2 k i) = ((c i : ℝ) : EReal)) :
    Cert.RefRun.dist fx cb (ValueIdx.ix2 r k) = ((sq x c : ℝ) : EReal) := by
  have e : Cert.RefRun.dist fx cb (ValueIdx.ix2 r k) = (∑ i, (fx (ValueIdx.ix2 r i) : EReal) * fx (ValueIdx.ix2 r i)
      - Ideal.ofBits .f32 0x40000000#32 * ∑ i, (fx (ValueIdx.ix2 r i) : EReal) * cb (ValueIdx.ix2 k i))
      + ∑ i, (cb (ValueIdx.ix2 k i) : EReal) * cb (ValueIdx.ix2 k i) := by
    pointwise [Cert.RefRun.dist]
    rfl
  rw [e, two_f32]
  simp only [hx, hc]
  exact dist_reference x c

theorem rows_apply {α : Type} (x : S1024x256.Idx → α) (ix : IVec S18432x1 32) (r : Fin 18432) (b : Fin 256) :
    Host.gather gather_S1024x256_S18432x1_S18432x256_1_0_n_n_0_1_1256 x ix (ValueIdx.ix2 r b)
      = x (ValueIdx.ix2 ⟨min (ix (ValueIdx.ix2 r 0)).toInt.toNat 1023, by omega⟩ b) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x256_S18432x1_S18432x256_1_0_n_n_0_1_1256.startIndexMap from List.mem_singleton.mpr rfl)]
    have hsi : gather_S1024x256_S18432x1_S18432x256_1_0_n_n_0_1_1256.siIdx (ValueIdx.ix2 r b) ⟨List.idxOf (0 : Fin 2) gather_S1024x256_S18432x1_S18432x256_1_0_n_n_0_1_1256.startIndexMap,
        List.idxOf_lt_length_iff.2 (List.mem_singleton.mpr rfl)⟩ = ValueIdx.ix2 r 0 := by
      funext b; refine Fin.ext ?_
      match b with
      | ⟨0, _⟩ => rfl
      | ⟨1, _⟩ => rfl
    rw [hsi]
    rfl
  | 1 =>
    unfold GatherDims.start
    rw [dif_neg (show ¬ (1 : Fin 2) ∈ gather_S1024x256_S18432x1_S18432x256_1_0_n_n_0_1_1256.startIndexMap from by
      intro h; exact absurd (List.mem_singleton.mp h) (by decide))]
    simp only [Nat.zero_add]
    rfl

theorem taken_eq (cb : FVec Ideal S1024x256 .f32) (ix : IVec S18432 32) (r : Fin 18432) (b : Fin 256) (k : Fin 1024)
    (h : ix (ValueIdx.ix1 r) = BitVec.ofNat 32 k.val) : taken cb ix (ValueIdx.ix2 r b) = cb (ValueIdx.ix2 k b) := by
  have hk := k.isLt
  have hn : IntOp.cmpi .slt (BitVec.ofNat 32 k.val) 0#32 = 0#1 := by
    show BitVec.ofBool ((BitVec.ofNat 32 k.val).slt 0#32) = 0#1
    have : ((BitVec.ofNat 32 k.val).slt 0#32) = false := by
      simp only [BitVec.slt, StableHlo.Predicate.toInt_ofNat_small k.val (by omega)]
      simp
    rw [this]; rfl
  have hge : IntOp.cmpi .sge (BitVec.ofNat 32 k.val) 0#32 = 1#1 := by
    show BitVec.ofBool ((0#32).sle (BitVec.ofNat 32 k.val)) = 1#1
    exact (StableHlo.Predicate.sle_ofNat_iff 0 k.val (by omega) (by omega)).2 (Nat.zero_le _)
  have hle : IntOp.cmpi .sle (BitVec.ofNat 32 k.val) 1023#32 = 1#1 :=
    (StableHlo.Predicate.sle_ofNat_iff k.val 1023 (by omega) (by omega)).2 (by omega)
  pointwise [taken]
  rw [rows_apply]
  have e : ∀ y : S18432.Idx, y = ValueIdx.ix1 r → ix y = BitVec.ofNat 32 k.val := fun y hy => hy ▸ h
  have h' : ix (Idealize.ShloMosaic.ix1 (ValueIdx.ix2 r b 0)) = BitVec.ofNat 32 k.val := e _ rfl
  have hb : broadcastInDim S18432x1 ![0] bcast_S18432_S18432x1_0
      (select (cmpi .slt ix (broadcastInDim S18432 ![] bcast_S_S18432 (constantI S_ 32 0#32)))
        (addi ix (broadcastInDim S18432 ![] bcast_S_S18432 (constantI S_ 32 1024#32))) ix) (ValueIdx.ix2 r 0) = BitVec.ofNat 32 k.val := by
    pointwise
    have h2 := e (Idealize.ShloMosaic.ix1 ((ValueIdx.ix2 r 0 : S18432x1.Idx) 0)) rfl
    rw [h2, hn]; rfl
  simp only [hb, h', hn]
  have hs : Scalar.select (0#1) (IntOp.addi (BitVec.ofNat 32 k.val) 1024#32) (BitVec.ofNat 32 k.val) = BitVec.ofNat 32 k.val := rfl
  simp only [hs, hge, hle]
  have hm : (⟨min (BitVec.ofNat 32 k.val).toInt.toNat 1023, by omega⟩ : Fin 1024) = k := by
    refine Fin.ext ?_
    show min (BitVec.ofNat 32 k.val).toInt.toNat 1023 = k.val
    rw [StableHlo.Predicate.toInt_ofNat_small k.val (by omega)]
    omega
  rw [hm]
  rw [show Finset.fold IntOp.andi (1#1) (fun _ : Fin 1 => IntOp.andi (1#1) (1#1)) Finset.univ = 1#1 from rfl]
  rfl

theorem guarded_apply (v : IVec S18432 1) (ii : IVec S18432 32) (k : BitVec 32) (r : Fin 18432) :
    guarded v ii k (ValueIdx.ix1 r) = Scalar.select (v (ValueIdx.ix1 r)) (ii (ValueIdx.ix1 r)) k := by
  pointwise [guarded]

theorem blocks_apply (ii : IVec S18432 32) (t : Fin 9) (b : Fin 2048) :
    shapeCast S9x1x2048 ii shapeCasts_S18432_S9x1x2048 (ValueIdx.ix3 t 0 b) = ii (ValueIdx.ix1 ⟨2048 * t.val + b.val, by omega⟩) := by
  pointwise
  refine congrArg ii (congrArg ValueIdx.ix1 (Fin.ext ?_))
  show t.val * 2048 + b.val = 2048 * t.val + b.val
  omega

end Cert.RefVal
end
-- ==== Proof.RefLoss.lean ====
/- The reference's results at an entry. -/
module

public import proofs.«01_k».proof.Proof.RefRun
public import proofs.«01_k».proof.Proof.Scalar
public import Idealize.ShloMosaic.Lib.Pointwise
public import Idealize.ShloMosaic.Lib.ReduceAll
public import Idealize.ShloMosaic.PureOps.Reduce

@[expose] public section

set_option maxRecDepth 16384

noncomputable section

namespace Cert.RefVal

open Idealize.ShloMosaic Idealize.SL.Sem Cert.ReferenceIdeal Cert.ReferenceIdeal.Gen Cert.RefRun Cert.Scalar

theorem loss_eq (fx q : FVec Ideal S18432x256 .f32) (v : IVec S18432 1) (i) :
    loss fx q v i = Ideal.ofBits .f32 0x3E800000#32 *
      Ideal.div
        (∑ x, ∑ y, ((fx (ValueIdx.ix2 x y) - q (ValueIdx.ix2 x y)) * (fx (ValueIdx.ix2 x y) - q (ValueIdx.ix2 x y)) * FloatOps.uitofp (F := Ideal) .f32 (v (ValueIdx.ix1 x)) : EReal))
        ((∑ x, ∑ _y : Fin 1, (FloatOps.uitofp (F := Ideal) .f32 (v (ValueIdx.ix1 x)) : EReal)) * Ideal.ofBits .f32 0x43800000#32) := by
  pointwise [loss]
  rfl

end Cert.RefVal
end
-- ==== Proof.Math.lean ====
/- The kernel's results are the reference's: the same nearest code at every point, and the same loss. -/
module

public import proofs.«01_k».proof.Proof.KerPay
public import proofs.«01_k».proof.Proof.KerRes
public import proofs.«01_k».proof.Proof.RefVal
public import proofs.«01_k».proof.Proof.RefLoss

@[expose] public section

set_option maxRecDepth 16384

noncomputable section

namespace Cert.Bridge

open Idealize.ShloMosaic Idealize.SL.Sem Cert.KernelIdeal Cert.KernelIdeal.Gen Cert.Scalar Cert.KerVal

/-- A sum over the points, block by block. -/
theorem sum_blocks (g : Fin 18432 → EReal) :
    ∑ r, g r = ∑ t : Fin 9, ∑ b : Fin 2048, g ⟨2048 * t.val + b.val, by omega⟩ := by
  rw [← Fintype.sum_prod_type' (fun (t : Fin 9) (b : Fin 2048) => g ⟨2048 * t.val + b.val, by omega⟩)]
  refine (Fintype.sum_equiv (finProdFinEquiv (m := 9) (n := 2048)) _ _ fun p => ?_).symm
  exact congrArg g (Fin.ext (Nat.add_comm _ _))

theorem quarter_f32 : Ideal.ofBits .f32 0x3E800000#32 = ((1 / 4 : ℝ) : EReal) := by
  simp [Ideal.ofBits, Ideal.ieee]; norm_num
  rw [← EReal.coe_mul]; norm_num

/-- A quotient scaled by a quarter, the divisor zero or not. -/
theorem scaled_div (a b : EReal) :
    Ideal.ofBits .f32 0x3E800000#32 * Ideal.div a b = Ideal.div (Ideal.ofBits .f32 0x3E800000#32 * a) b := by
  rw [quarter_f32]
  have hk : (0 : ℝ) < 1 / 4 := by norm_num
  have hk' : (0 : EReal) < ((1 / 4 : ℝ) : EReal) := EReal.coe_pos.2 hk
  unfold Ideal.div
  by_cases hb : b = 0
  · rw [if_pos hb, if_pos hb]
    by_cases ha : 0 < a
    · rw [if_pos ha, if_pos (EReal.mul_pos hk' ha), EReal.coe_mul_top_of_pos hk]
    · rw [if_neg ha, if_neg, EReal.coe_mul_bot_of_pos hk]
      exact not_lt.2 (mul_nonpos_of_nonneg_of_nonpos hk'.le (not_lt.1 ha))
  · rw [if_neg hb, if_neg hb]
    exact (mul_assoc _ a _).symm

variable (m : (ℓ : Loc nD τ sig) → Buf (Elt Ideal) ℓ) (c : Dev nD)

abbrev A0 : FVec Ideal S32x576x256 .f32 := m ((c.tc : Thread nD τ).loc main_arg0)
abbrev A1 : FVec Ideal S32x576 .f32 := m ((c.tc : Thread nD τ).loc main_arg1)
abbrev A2 : FVec Ideal S1024x256 .f32 := m ((c.tc : Thread nD τ).loc main_arg2)

/-- The points and the codes as real numbers, and the first nearest code of every point. -/
structure Real (X : Fin 18432 → Fin 256 → ℝ) (C : Fin 1024 → Fin 256 → ℝ) (K : Fin 18432 → Fin 1024) : Prop where
  hx : ∀ r i, (Cert.RefRun.flat (A0 m c) (ValueIdx.ix2 r i) : EReal) = ((X r i : ℝ) : EReal)
  hc : ∀ k i, (A2 m c (ValueIdx.ix2 k i) : EReal) = ((C k i : ℝ) : EReal)
  hk : ∀ r, First (fun j => ((sq (X r) (C j) : ℝ) : EReal)) (K r)

theorem exists_real (h0 : ∀ i, ∃ r : ℝ, (A0 m c i : EReal) = (r : EReal)) (h2 : ∀ i, ∃ r : ℝ, (A2 m c i : EReal) = (r : EReal)) :
    ∃ X C K, Real m c X C K := by
  have hx : ∀ r i, ∃ y : ℝ, (Cert.RefRun.flat (A0 m c) (ValueIdx.ix2 r i) : EReal) = (y : EReal) := fun r i => h0 _
  choose X hX using hx
  choose C hC using fun (k : Fin 1024) (i : Fin 256) => h2 (ValueIdx.ix2 k i)
  choose K hK using fun r => exists_first (n := 1024) (by decide) (fun j => ((sq (X r) (C j) : ℝ) : EReal))
  exact ⟨X, C, K, hX, hC, hK⟩

/-- Whether a point counts. -/
def bit (r : Fin 18432) : BitVec 1 := Cert.RefRun.valid (A1 m c) (ValueIdx.ix1 r)

variable {m c} {X : Fin 18432 → Fin 256 → ℝ} {C : Fin 1024 → Fin 256 → ℝ} {K : Fin 18432 → Fin 1024} (H : Real m c X C K)

/-- Point `b` of block `t`. -/
abbrev pt (t : Fin 9) (b : Fin 2048) : Fin 18432 := ⟨2048 * t.val + b.val, by omega⟩
abbrev st (t : Fin 9) : Fin cfg0.N := ⟨t.val, lt_of_lt_of_eq t.isLt N_0.symm⟩

theorem ker_bit (t : Fin 9) (b : Fin 2048) : k0_pay12 (F := Ideal) (iblk m c 2 (st t)) (ValueIdx.ix2 0 b) = bit m c (pt t b) := by
  rw [KerPay.bit_read, bit, Cert.RefVal.valid_apply]
  exact congrArg (fun z : EReal => BitVec.ofBool (decide (Ideal.ofBits .f32 0x3F000000#32 < z))) (mask_eq m c (st t) b)

include H

theorem ker_x (t : Fin 9) (b : Fin 2048) (i : Fin 256) :
    ((iblk m c 0 (st t) : FVec Ideal S2048x256 .f32) (ValueIdx.ix2 b i) : EReal) = ((X (pt t b) i : ℝ) : EReal) :=
  (rows_eq m c (st t) b i).trans (H.hx (pt t b) i)

theorem ker_place (t : Fin 9) (b : Fin 2048) :
    k0_pay11 (F := Ideal) (A2 m c) (iblk m c 0 (st t)) (k0_pay7 (F := Ideal) (A2 m c)) (ValueIdx.ix2 0 b) = BitVec.ofNat 32 (K (pt t b)).val :=
  KerPay.place_eq (cb := A2 m c) (x := iblk m c 0 (st t)) (r := b) (xr := X (pt t b)) (c := C) (ker_x H t b) H.hc _ (H.hk _)

theorem ker_im (t : Fin 9) (b : Fin 2048) :
    im m c (st t) b = Scalar.select (bit m c (pt t b)) (BitVec.ofNat 32 (K (pt t b)).val) 0#32 := by
  have e := KerPay.masked_read (A2 m c) (iblk m c 0 (st t)) (iblk m c 2 (st t)) (k0_pay7 (F := Ideal) (A2 m c)) b
  rw [ker_bit, ker_place H] at e
  exact e

theorem ker_ig (t : Fin 9) (b : Fin 2048) :
    ig m c (st t) b = Scalar.select (bit m c (pt t b)) (BitVec.ofNat 32 (K (pt t b)).val) 1024#32 := by
  have e := KerPay.guarded_read (k0_pay11 (F := Ideal) (A2 m c) (iblk m c 0 (st t)) (k0_pay7 (F := Ideal) (A2 m c)))
    (k0_pay12 (F := Ideal) (iblk m c 2 (st t))) b
  rw [ker_bit, ker_place H] at e
  exact e

theorem ker_s0 (t : Fin 9) :
    s0 m c (st t) = ∑ b : Fin 2048, ((sq (X (pt t b)) (C (K (pt t b))) * ((bit m c (pt t b)).toNat : ℝ) : ℝ) : EReal) := by
  refine (KerPay.num_read (dm m c (st t)) (k0_pay12 (F := Ideal) (iblk m c 2 (st t)))).trans ?_
  refine Finset.sum_congr rfl fun b _ => ?_
  rw [ker_bit, weight_coe, EReal.coe_mul]
  refine congrArg (fun z : EReal => z * (((bit m c (pt t b)).toNat : ℝ) : EReal)) ?_
  exact KerPay.least_eq (cb := A2 m c) (x := iblk m c 0 (st t)) (r := b) (xr := X (pt t b)) (c := C) (ker_x H t b) H.hc _ (H.hk _)

omit H in
theorem ker_s1 (t : Fin 9) : s1 m c (st t) = ∑ b : Fin 2048, (((bit m c (pt t b)).toNat : ℝ) : EReal) := by
  refine (KerPay.den_read (k0_pay12 (F := Ideal) (iblk m c 2 (st t)))).trans ?_
  refine Finset.sum_congr rfl fun b _ => ?_
  rw [ker_bit, weight_coe]

theorem ref_place (r : Fin 18432) :
    Cert.RefRun.arg (Cert.RefRun.dist (Cert.RefRun.flat (A0 m c)) (A2 m c)) (ValueIdx.ix1 r) = BitVec.ofNat 32 (K r).val := by
  have e : ∀ j, (Cert.RefRun.dist (Cert.RefRun.flat (A0 m c)) (A2 m c) (ValueIdx.ix2 r j) : EReal) = ((sq (X r) (C j) : ℝ) : EReal) :=
    fun j => Cert.RefVal.dist_apply _ _ r j (X r) (C j) (H.hx r) (H.hc j)
  refine Cert.RefVal.arg_eq _ r (K r) ?_ ?_
  · rw [funext e]; exact H.hk r
  · rw [e]; exact EReal.coe_lt_top _

theorem res_idx (a : S9x1x2048.Idx → BitVec 32) (k : BitVec 32)
    (ha : ∀ t b, a (ValueIdx.ix3 t 0 b) = Scalar.select (bit m c (pt t b)) (BitVec.ofNat 32 (K (pt t b)).val) k) :
    a = shapeCast S9x1x2048 (Cert.RefRun.guarded (Cert.RefRun.valid (A1 m c))
      (Cert.RefRun.arg (Cert.RefRun.dist (Cert.RefRun.flat (A0 m c)) (A2 m c))) k) Cert.ReferenceIdeal.Gen.shapeCasts_S18432_S9x1x2048 := by
  funext i
  have hi : i = ValueIdx.ix3 (i 0) 0 (i 2) := by
    funext d
    match d with
    | ⟨0, _⟩ => rfl
    | ⟨1, _⟩ => exact Subsingleton.elim (α := Fin 1) _ _
    | ⟨2, _⟩ => rfl
  rw [hi]
  refine (ha (i 0) (i 2)).trans ?_
  refine Eq.symm ((Cert.RefVal.blocks_apply _ (i 0) (i 2)).trans ((Cert.RefVal.guarded_apply _ _ k (pt (i 0) (i 2))).trans ?_))
  rw [ref_place H]
  rfl

theorem ref_num (r : Fin 18432) :
    (∑ y : Fin 256, ((Cert.RefRun.flat (A0 m c) (ValueIdx.ix2 r y)
        - Cert.RefRun.taken (A2 m c) (Cert.RefRun.arg (Cert.RefRun.dist (Cert.RefRun.flat (A0 m c)) (A2 m c))) (ValueIdx.ix2 r y))
      * (Cert.RefRun.flat (A0 m c) (ValueIdx.ix2 r y)
        - Cert.RefRun.taken (A2 m c) (Cert.RefRun.arg (Cert.RefRun.dist (Cert.RefRun.flat (A0 m c)) (A2 m c))) (ValueIdx.ix2 r y))
      * FloatOps.uitofp (F := Ideal) .f32 (Cert.RefRun.valid (A1 m c) (ValueIdx.ix1 r)) : EReal))
      = ((sq (X r) (C (K r)) * ((bit m c r).toNat : ℝ) : ℝ) : EReal) := by
  have e : ∀ y : Fin 256, (Cert.RefRun.taken (A2 m c) (Cert.RefRun.arg (Cert.RefRun.dist (Cert.RefRun.flat (A0 m c)) (A2 m c))) (ValueIdx.ix2 r y) : EReal)
      = ((C (K r) y : ℝ) : EReal) := fun y => (Cert.RefVal.taken_eq _ _ r y (K r) (ref_place H r)).trans (H.hc (K r) y)
  have ew : (FloatOps.uitofp (F := Ideal) .f32 (Cert.RefRun.valid (A1 m c) (ValueIdx.ix1 r)) : EReal) = (((bit m c r).toNat : ℝ) : EReal) := rfl
  rw [show sq (X r) (C (K r)) = ∑ i, (X r i - C (K r) i) * (X r i - C (K r) i) from rfl, Finset.sum_mul, coe_sum]
  refine Finset.sum_congr rfl fun y _ => ?_
  rw [e y, ew, H.hx r y, EReal.coe_mul, EReal.coe_mul, EReal.coe_sub]

theorem res_loss :
    (dats m 0 c).arrAt 5 cfg0.N = shapeCast S1 (Cert.RefRun.loss (Cert.RefRun.flat (A0 m c))
      (Cert.RefRun.taken (A2 m c) (Cert.RefRun.arg (Cert.RefRun.dist (Cert.RefRun.flat (A0 m c)) (A2 m c))))
      (Cert.RefRun.valid (A1 m c))) Cert.ReferenceIdeal.Gen.shapeCasts_S_S1 := by
  rw [res5]
  funext i
  rw [KerPay.mean_read]
  refine Eq.symm ((Cert.RefVal.loss_eq (Cert.RefRun.flat (A0 m c)) _ _ _).trans ?_)
  have hn := (Finset.sum_congr rfl fun r (_ : r ∈ Finset.univ) => ref_num H r).trans (sum_blocks _)
  have hn' := hn.trans (Finset.sum_congr rfl fun t _ => (ker_s0 H t).symm)
  have hd : (∑ x : Fin 18432, ∑ _y : Fin 1, (FloatOps.uitofp (F := Ideal) .f32 (Cert.RefRun.valid (A1 m c) (ValueIdx.ix1 x)) : EReal))
      = ∑ t : Fin 9, s1 m c (st t) := by
    refine (Finset.sum_congr rfl fun r (_ : r ∈ Finset.univ) => Fin.sum_univ_one _).trans ?_
    exact (sum_blocks _).trans (Finset.sum_congr rfl fun t _ => (ker_s1 t).symm)
  rw [hn', hd]
  exact scaled_div _ _

end Cert.Bridge
end
-- ==== Proof.GiSet.lean ====
/-
  The gather call's tiles: the launch set-up, the windows each tile addresses (its 576 indices, the six lists of 96
  of them, the three row slots, the six blocks of 96 result rows), and what a tile writes into one block — the
  table rows that the block's indices name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Gi

open Cert.GatherIdeal Cert.GatherIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem lfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the windows -/

/-- The indices, the table of 1032 rows, the gathered rows. -/
abbrev iLoc (d : Dev nD) : Loc nD τ sig := (SparseCore.T d).loc main_arg0
abbrev tLoc (d : Dev nD) : Loc nD τ sig := (SparseCore.T d).loc main_v2
abbrev oLoc (d : Dev nD) : Loc nD τ sig := (SparseCore.T d).loc main_v3

abbrev iV : Memref sig .scVector .hbm S18432 .i32 := Memref.whole main_arg0_scv
abbrev tV : Memref sig .scVector .hbm S1032x2x128 .f32 := Memref.whole main_v2_scv
abbrev oV : Memref sig .scVector .hbm S18432x2x128 .f32 := Memref.whole main_v3_scv
abbrev xV : Memref sig .scVector .vmem S576 .i32 := Memref.whole cc0_scratch0
abbrev rV : Memref sig .scVector .vmem S3x96x2x128 .f32 := Memref.whole cc0_scratch1

theorem lst_inb : ∀ r : Fin 6, ∀ a, (![96 * r.val] : Fin 1 → ℕ) a + S96.size a ≤ S576.size a := by decide
theorem slot_inb : ∀ s : Fin 3, ∀ a, (![s.val, 0, 0, 0] : Fin 4 → ℕ) a + S1x96x2x128.size a ≤ S3x96x2x128.size a := by decide
theorem sem_inb : ∀ s : Fin 3, ∀ a, (![s.val] : Fin 1 → ℕ) a + S1.size a ≤ S3.size a := by decide

/-- A tile's 576 indices; all of the table; block `r` of the tile's 96 rows; list `r`; row slot `s`; its semaphore. -/
abbrev iBlk (L : grid0.Coords) : Memref sig .scVector .hbm S576 .i32 := (iV).slice (Rect.unit (s := S18432) (k0_off1 L) S576.size (k0_off1_inb L)) (fun _ => rfl)
abbrev tAll : Memref sig .scVector .hbm S1032x2x128 .f32 := (tV).slice (Rect.unit (s := S1032x2x128) ![0, 0, 0] S1032x2x128.size inb_S1032x2x128_S1032x2x128_0_0_0) (fun _ => rfl)
abbrev oBlk (L : grid0.Coords) (r : Fin 6) : Memref sig .scVector .hbm S96x2x128 .f32 :=
  (oV).slice (Rect.unit (s := S18432x2x128) (k0_off2 L (BitVec.ofNat 32 (96 * r.val))) S96x2x128.size (k0_off2_inb L r)) (fun _ => rfl)
abbrev lst (r : Fin 6) : Memref sig .scVector .vmem S96 .i32 := (xV).slice (Rect.unit (s := S576) ![96 * r.val] S96.size (lst_inb r)) (fun _ => rfl)
abbrev slot (s : Fin 3) : Memref sig .scVector .vmem S96x2x128 .f32 :=
  ((rV).slice (Rect.unit (s := S3x96x2x128) ![s.val, 0, 0, 0] S1x96x2x128.size (slot_inb s)) (fun _ => rfl)).squeeze S96x2x128 squeezes_S1x96x2x128_S96x2x128
abbrev gsem (s : Fin 3) : DmaSem sig := ((cc0_scratch2.slice (Rect.unit (s := S3) ![s.val] S1.size (sem_inb s))).squeeze S_ squeezes_S1_S_).sem

/-! ## Their elements -/

/-- The elements of a list, of a slot. -/
abbrev lstS (r : Fin 6) : Finset S576.Idx := (lst r).view.set
abbrev slotS (s : Fin 3) : Finset S3x96x2x128.Idx := (slot s).view.set

theorem mem_oBlk (L : grid0.Coords) (r : Fin 6) (j : S18432x2x128.Idx) :
    j ∈ (oBlk L r).view.set ↔ 1152 * (L 1).val + 576 * (L 0).val + 96 * r.val ≤ (j 0).val ∧ (j 0).val < 1152 * (L 1).val + 576 * (L 0).val + 96 * r.val + 96 := by
  rw [show (oBlk L r).view.set = (Rect.unit (s := S18432x2x128) (k0_off2 L (BitVec.ofNat 32 (96 * r.val))) S96x2x128.size (k0_off2_inb L r)).set from View.set_slice_whole _ _]
  rw [Rect.mem_set_unit, k0_off2_eq]
  constructor
  · intro h; exact h 0
  · intro h a
    match a with
    | 0 => exact h
    | 1 => exact ⟨Nat.zero_le _, by have := (j 1).isLt; exact lt_of_lt_of_eq this (Nat.zero_add _).symm⟩
    | 2 => exact ⟨Nat.zero_le _, by have := (j 2).isLt; exact lt_of_lt_of_eq this (Nat.zero_add _).symm⟩

theorem mem_iBlk (L : grid0.Coords) (j : S18432.Idx) :
    j ∈ (iBlk L).view.set ↔ 1152 * (L 1).val + 576 * (L 0).val ≤ (j 0).val ∧ (j 0).val < 1152 * (L 1).val + 576 * (L 0).val + 576 := by
  rw [show (iBlk L).view.set = (Rect.unit (s := S18432) (k0_off1 L) S576.size (k0_off1_inb L)).set from View.set_slice_whole _ _]
  rw [Rect.mem_set_unit, k0_off1_eq]
  constructor
  · intro h; exact h 0
  · intro h a
    match a with
    | 0 => exact h

theorem mem_lst (r : Fin 6) (j : S576.Idx) : j ∈ (lst r).view.set ↔ 96 * r.val ≤ (j 0).val ∧ (j 0).val < 96 * r.val + 96 := by
  rw [show (lst r).view.set = (Rect.unit (s := S576) ![96 * r.val] S96.size (lst_inb r)).set from View.set_slice_whole _ _]
  rw [Rect.mem_set_unit]
  constructor
  · intro h; exact h 0
  · intro h a
    match a with
    | 0 => exact h

theorem mem_slot (s : Fin 3) (j : S3x96x2x128.Idx) : j ∈ (slot s).view.set ↔ (j 0).val = s.val := by
  rw [show (slot s).view.set = (Rect.unit (s := S3x96x2x128) ![s.val, 0, 0, 0] S1x96x2x128.size (slot_inb s)).set from
    (View.set_reshape _ _).trans (View.set_slice_whole _ _)]
  rw [Rect.mem_set_unit]
  constructor
  · intro h
    have h0 : s.val ≤ (j 0).val ∧ (j 0).val < s.val + 1 := h 0
    omega
  · intro h a
    match a with
    | 0 => exact (show s.val ≤ (j 0).val ∧ (j 0).val < s.val + 1 by omega)
    | 1 => exact ⟨Nat.zero_le _, by have := (j 1).isLt; exact lt_of_lt_of_eq this (Nat.zero_add _).symm⟩
    | 2 => exact ⟨Nat.zero_le _, by have := (j 2).isLt; exact lt_of_lt_of_eq this (Nat.zero_add _).symm⟩
    | 3 => exact ⟨Nat.zero_le _, by have := (j 3).isLt; exact lt_of_lt_of_eq this (Nat.zero_add _).symm⟩

theorem set_tAll : (tAll).view.set = Finset.univ := by
  rw [show (tAll).view.set = (Rect.unit (s := S1032x2x128) ![0, 0, 0] S1032x2x128.size inb_S1032x2x128_S1032x2x128_0_0_0).set from View.set_slice_whole _ _]
  ext j
  simp only [Finset.mem_univ, iff_true]
  rw [Rect.mem_set_unit]
  intro a
  match a with
  | 0 => exact ⟨Nat.zero_le _, by have := (j 0).isLt; exact lt_of_lt_of_eq this (Nat.zero_add _).symm⟩
  | 1 => exact ⟨Nat.zero_le _, by have := (j 1).isLt; exact lt_of_lt_of_eq this (Nat.zero_add _).symm⟩
  | 2 => exact ⟨Nat.zero_le _, by have := (j 2).isLt; exact lt_of_lt_of_eq this (Nat.zero_add _).symm⟩

theorem lst_disjoint (r r' : Fin 6) (h : r ≠ r') : Disjoint (lst r).view.set (lst r').view.set :=
  Finset.disjoint_left.mpr fun j h1 h2 => by
    have h1 := (mem_lst r j).mp h1; have h2 := (mem_lst r' j).mp h2
    exact h (Fin.ext (by omega))
theorem slot_disjoint (s s' : Fin 3) (h : s ≠ s') : Disjoint (slot s).view.set (slot s').view.set :=
  Finset.disjoint_left.mpr fun j h1 h2 => by
    have h1 := (mem_slot s j).mp h1; have h2 := (mem_slot s' j).mp h2
    exact h (Fin.ext (by omega))
theorem lst_cover : (Finset.univ : Finset (Fin 6)).biUnion lstS = Finset.univ := by
  ext j
  simp only [Finset.mem_biUnion, Finset.mem_univ, true_and, iff_true]
  have hj : (j 0).val < 576 := (j 0).isLt
  refine ⟨⟨(j 0).val / 96, by omega⟩, (mem_lst _ j).mpr ?_⟩
  show 96 * ((j 0).val / 96) ≤ _ ∧ _ < 96 * ((j 0).val / 96) + 96
  omega
theorem slot_cover : (Finset.univ : Finset (Fin 3)).biUnion slotS = Finset.univ := by
  ext j
  simp only [Finset.mem_biUnion, Finset.mem_univ, true_and, iff_true]
  exact ⟨⟨(j 0).val, (j 0).isLt⟩, (mem_slot _ j).mpr rfl⟩

/-! ## What the tiles write -/

/-- The table's element that row word `w` and the last two coordinates of `j` name. -/
abbrev rowAt (w : BitVec 32) (j : S18432x2x128.Idx) : S1032x2x128.Idx
  | 0 => (⟨w.toNat % 1032, Nat.mod_lt _ (by decide)⟩ : Fin 1032)
  | 1 => j 1
  | 2 => j 2
  | ⟨_ + 3, h⟩ => absurd h (Nat.not_lt.2 (Nat.le_add_left _ _))

/-- The place of row `j` in the indices. -/
abbrev ixAt (j : S18432x2x128.Idx) : S18432.Idx
  | 0 => j 0
  | ⟨_ + 1, h⟩ => absurd h (Nat.not_lt.2 (Nat.le_add_left _ _))

/-- The gathered rows: row `n` is the table's row that index `n` names. -/
def Out (T : S1032x2x128.Idx → Elt F .f32) (I : S18432.Idx → Elt F .i32) : S18432x2x128.Idx → Elt F .f32 :=
  fun j => T (rowAt (I (ixAt j)) j)

/-- Every index is a row of the table. -/
def InRange (I : S18432.Idx → Elt F .i32) : Prop := ∀ j, BitVec.toNat (w := 32) (I j) < 1032

/-- A tile's list buffer once its indices have been fetched into it. -/
abbrev fetched (L : grid0.Coords) (I : S18432.Idx → Elt F .i32) (fx : S576.Idx → Elt F .i32) : S576.Idx → Elt F .i32 :=
  (xV).view.write (Elt F) fx ((iBlk L).view.read (Elt F) I) Finset.univ

theorem fetched_lst (L : grid0.Coords) (r : Fin 6) (I : S18432.Idx → Elt F .i32) (fx : S576.Idx → Elt F .i32) (y : S96.Idx) :
    (lst r).view.read (Elt F) (fetched L I fx) y = I ((iBlk L).view.emb ((lst r).view.emb y)) := by
  rw [View.read_apply, cast_eq]
  unfold fetched
  rw [View.write_whole_univ]
  rw [View.read_apply, cast_eq]

theorem lst_inRange (L : grid0.Coords) (r : Fin 6) {I : S18432.Idx → Elt F .i32} (h : InRange I) (fx : S576.Idx → Elt F .i32) :
    ∀ y, BitVec.toNat (w := 32) ((lst r).view.read (Elt F) (fetched L I fx) y) < S1032x2x128.size gathers_S1032x2x128_S96x2x128.axis := by
  intro y; rw [fetched_lst]; exact h _

/-- The rows that list `r` names, read out of the table. -/
abbrev got (L : grid0.Coords) (r : Fin 6) (T : S1032x2x128.Idx → Elt F .f32) (I : S18432.Idx → Elt F .i32) (fx : S576.Idx → Elt F .i32) (h : InRange I) :
    S96x2x128.Idx → Elt F .f32 :=
  SparseCore.gatherPayload gathers_S1032x2x128_S96x2x128 ((tAll).view.read (Elt F) T)
    (SparseCore.rows ((lst r).view.read (Elt F) (fetched L I fx)) rfl (lst_inRange L r h fx))

theorem got_eq (L : grid0.Coords) (r : Fin 6) (T : S1032x2x128.Idx → Elt F .f32) (I : S18432.Idx → Elt F .i32) (fx : S576.Idx → Elt F .i32) (h : InRange I)
    (x : S96x2x128.Idx) : got L r T I fx h x = Out T I ((oBlk L r).view.emb x) := by
  have hk : ∀ (k : Fin 96), ((S96.rowMajor.symm k) 0).val = k.val := fun k => by
    have := Shape.rowMajor_val_one (d := ![96]) (S96.rowMajor.symm k)
    rw [← this]; exact congrArg Fin.val (S96.rowMajor.apply_symm_apply k)
  have hrow : ((SparseCore.rows ((lst r).view.read (Elt F) (fetched L I fx)) rfl (lst_inRange L r h fx) (x 0) : Fin 1032)).val
      = (I (ixAt ((oBlk L r).view.emb x)) : BitVec 32).toNat % 1032 := by
    rw [Nat.mod_eq_of_lt (h _)]
    show BitVec.toNat (w := 32) ((lst r).view.read (Elt F) (fetched L I fx) (S96.rowMajor.symm _)) = _
    rw [fetched_lst]
    congr 2
    funext a
    match a with
    | 0 =>
      refine Fin.ext ?_
      show (k0_off1 L) 0 + 1 * (96 * r.val + 1 * ((S96.rowMajor.symm _) 0).val) = (k0_off2 L (BitVec.ofNat 32 (96 * r.val))) 0 + 1 * (x 0).val
      rw [k0_off1_eq, k0_off2_eq]
      have := hk (x 0)
      show 1152 * (L 1).val + 576 * (L 0).val + 1 * (96 * r.val + 1 * ((S96.rowMajor.symm (x 0)) 0).val)
        = 1152 * (L 1).val + 576 * (L 0).val + 96 * r.val + 1 * (x 0).val
      omega
  show (tAll).view.read (Elt F) T _ = T _
  rw [View.read_apply, cast_eq]
  congr 1
  funext a
  refine Fin.ext ?_
  match a with
  | 0 =>
    refine Eq.trans ?_ hrow
    show 0 + 1 * (gathers_S1032x2x128_S96x2x128.idx _ x 0).val = _
    rw [Nat.zero_add, Nat.one_mul]
    exact congrArg Fin.val (Shape.Gathers.idx_axis gathers_S1032x2x128_S96x2x128 _ x)
  | 1 =>
    show 0 + 1 * (gathers_S1032x2x128_S96x2x128.idx _ x 1).val = (k0_off2 L (BitVec.ofNat 32 (96 * r.val))) 1 + 1 * (x 1).val
    rw [k0_off2_eq, Shape.Gathers.idx_of_ne gathers_S1032x2x128_S96x2x128 _ x 1 (by decide)]
    rfl
  | 2 =>
    show 0 + 1 * (gathers_S1032x2x128_S96x2x128.idx _ x 2).val = (k0_off2 L (BitVec.ofNat 32 (96 * r.val))) 2 + 1 * (x 2).val
    rw [k0_off2_eq, Shape.Gathers.idx_of_ne gathers_S1032x2x128_S96x2x128 _ x 2 (by decide)]
    rfl

/-- What the copy of a slot that holds list `r`'s rows leaves in block `r`. -/
theorem put_eq (L : grid0.Coords) (r : Fin 6) (s : Fin 3) (T : S1032x2x128.Idx → Elt F .f32) (I : S18432.Idx → Elt F .i32) (fx : S576.Idx → Elt F .i32) (h : InRange I)
    (fo : S18432x2x128.Idx → Elt F .f32) (fr : S3x96x2x128.Idx → Elt F .f32) :
    ∀ j ∈ (oBlk L r).view.set, (oBlk L r).view.write (Elt F) fo ((slot s).view.read (Elt F) ((slot s).view.write (Elt F) fr (got L r T I fx h) Finset.univ)) Finset.univ j
      = Out T I j := by
  intro j hj
  obtain ⟨x, _, rfl⟩ := Finset.mem_map.mp hj
  rw [View.write_emb_of_mem _ _ (Finset.mem_univ x), View.read_write_univ, cast_eq]
  exact got_eq L r T I fx h x

end Cert.Gi

end
-- ==== Proof.GiStep.lean ====
/-
  The gather call's tile as a list of steps — fetch the indices, start a gather into a slot, wait for it, copy the slot
  out, wait for that — and what each step does to the tile's share of the memory.
-/
module

public import proofs.«01_k».proof.Proof.GiSet

@[expose] public section

noncomputable section

namespace Cert.Gi

open Cert.GatherIdeal Cert.GatherIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The steps -/

abbrev TP (L : grid0.Coords) : Type 1 := Prog (TpuEff nD τ sig (Elt F) Λ₀ (.scVector ((L 0).castLE hcore0) ((L 1).castLE hsub0))) PUnit

def fetchP (L : grid0.Coords) : TP (F := F) L :=
  Prog.lift (.enqueueDma (iBlk L) (.here xV) (.dma cc0_scoped0.sem) (View.wordExact_bits rfl) (Memref.isWhole_whole cc0_scratch0).wordExact ⟨Or.inl rfl, trivial⟩)
def fetchedP (L : grid0.Coords) : TP (F := F) L :=
  Prog.lift (.waitDma2 cc0_scoped0.sem (iBlk L) xV (View.wordExact_bits rfl) (Memref.isWhole_whole cc0_scratch0).wordExact)
def gatP (L : grid0.Coords) (r : Fin 6) (s : Fin 3) : TP (F := F) L :=
  SparseCore.enqueueIndirectGather rfl tAll (slot s) gathers_S1032x2x128_S96x2x128 (lst r) rfl (gsem s) (View.wordExact_bits rfl) rfl (Or.inl rfl)
def gotP (L : grid0.Coords) (s : Fin 3) : TP (F := F) L :=
  SparseCore.waitIndirectGather (gsem s) tAll (slot s) (View.wordExact_bits rfl) ((View.wordExact_bits rfl).reshape _ _)
def putP (L : grid0.Coords) (r : Fin 6) (s : Fin 3) : TP (F := F) L :=
  Prog.lift (.enqueueDma (slot s) (.here (oBlk L r)) (.dma cc0_scratch3.sem) ((View.wordExact_bits rfl).reshape _ _) (View.wordExact_bits rfl) ⟨Or.inl rfl, trivial⟩)
def donP (L : grid0.Coords) (r : Fin 6) (s : Fin 3) : TP (F := F) L :=
  Prog.lift (.waitDma2 cc0_scratch3.sem (slot s) (oBlk L r) ((View.wordExact_bits rfl).reshape _ _) (View.wordExact_bits rfl))

/-- The tile, step by step. -/
def bodyP (L : grid0.Coords) : TP (F := F) L := do
  fetchP L
  fetchedP L
  gatP L 0 0
  gatP L 1 1
  gatP L 2 2
  gotP L 0
  putP L 0 0
  donP L 0 0
  gatP L 3 0
  gotP L 1
  putP L 1 1
  donP L 1 1
  gatP L 4 1
  gotP L 2
  putP L 2 2
  donP L 2 2
  gatP L 5 2
  gotP L 0
  putP L 3 0
  gotP L 1
  putP L 4 1
  gotP L 2
  putP L 5 2
  donP L 3 0
  donP L 4 1
  donP L 5 2

set_option maxRecDepth 65536 in
theorem body_eq (L : grid0.Coords) :
    cc0__sc_gather_body (F := F) L tV (Memref.isWhole_whole _) iV (Memref.isWhole_whole _) oV (Memref.isWhole_whole _)
      xV (Memref.isWhole_whole _) rV (Memref.isWhole_whole _) cc0_scratch2 cc0_scratch3 cc0_scoped0 = bodyP L := by
  rw [cc0__sc_gather_body_eq_skeleton]
  rfl

/-! ## What is held between the steps -/

section Steps

variable (d : Dev nD) (L : grid0.Coords) (T : S1032x2x128.Idx → Elt F .f32) (I : S18432.Idx → Elt F .i32)

abbrev xPts (f : S576.Idx → Elt F .i32) : sProp 𝕄 := (xV).view.loc (thr d L) ↦[(xV).view.set]{fullShare} f
abbrev lPts (r : Fin 6) (f : S576.Idx → Elt F .i32) : sProp 𝕄 := (lst r).view.loc (thr d L) ↦[(lst r).view.set]{fullShare} f
abbrev sPts (s : Fin 3) (f : S3x96x2x128.Idx → Elt F .f32) : sProp 𝕄 := (slot s).view.loc (thr d L) ↦[(slot s).view.set]{fullShare} f
abbrev iPts : sProp 𝕄 := (iBlk L).view.loc (thr d L) ↦[(iBlk L).view.set]{fullShare} I
abbrev tPts (q : PosShare TreeShare) : sProp 𝕄 := (tAll).view.loc (thr d L) ↦[(tAll).view.set]{q} T
abbrev oPts (r : Fin 6) (f : S18432x2x128.Idx → Elt F .f32) : sProp 𝕄 := (oBlk L r).view.loc (thr d L) ↦[(oBlk L r).view.set]{fullShare} f

/-- The tile's waits so far: those it began with and ones at no call's index. -/
def OW (O : CellTallies nD τ sig (HIx 1)) (W : Waits sig (HIx 1)) : sProp 𝕄 :=
  iprop(∃ W', ⌜∀ p ∈ W', p ∈ W ∨ p.2 = none⌝ ∗ owes (thr d L) O W')

theorem gat_credit (s : Fin 3) : ∑ j, ((slot s).slice (S96x2x128.rowRect gathers_S1032x2x128_S96x2x128.axis' j)
    (S96x2x128.stride_rowRect gathers_S1032x2x128_S96x2x128.axis' j)).view.dmaCredit = (slot s).view.dmaCredit :=
  SparseCore.sum_rowCredit_eq_dmaCredit _ _ fun _ => rfl

abbrev NG (s : Fin 3) : ℕ := (slot s).view.dmaCredit
abbrev NP (r : Fin 6) : ℕ := (oBlk L r).view.dmaCredit

theorem NP_pos (r : Fin 6) : 0 < NP L r := (show 0 < S96x2x128.numel * EltTy.f32.bits by decide)
theorem NX_pos : 0 < (xV).view.dmaCredit := (show 0 < S576.numel * EltTy.i32.bits by decide)

abbrev gotten (r : Fin 6) (s : Fin 3) (fx : S576.Idx → Elt F .i32) (h : InRange I) (fr : S3x96x2x128.Idx → Elt F .f32) : S3x96x2x128.Idx → Elt F .f32 :=
  (slot s).view.write (Elt F) fr (got L r T I fx h) Finset.univ

/-- Waiting for the one transfer in flight on semaphore `sem`. -/
theorem wait_step {Q : PUnit.{1} → sProp 𝕄} {sp' sp : Space} {s' s : Shape} {e' e : EltTy} {sem : DmaSem sig} {srcw : Memref sig (thr d L).2.kind sp' s' e'} {dstw : Memref sig .scVector sp s e}
    {hsrc : srcw.view.WordExact} {hdst : dstw.view.WordExact} {N : ℕ} (hN : dstw.view.dmaCredit = N)
    {k : PUnit → TP (F := F) L} {A : sProp 𝕄} (O : CellTallies nD τ sig (HIx 1)) (W : Waits sig (HIx 1)) :
    iprop(Transfers.Flight countersEmb (thr d L) (.dma sem) (default : HIx 1) N A ∗ OW d L O W ∗ Transfers.MayWaits (thr d L) (default : HIx 1) O)
      ⊢ iprop((iprop(A ∗ semVal (thr d L, .dma sem) 0 ∗ OW d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold OW
  iintro ⟨Hfl, ⟨%W', %hW', HO⟩, Hmw⟩ Hk
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sem)) $$ Hmw
  iintro ⟨HA, Hsem, HO⟩
  iapply Hk
  isplitl [HA]; · iexact HA
  isplitl [Hsem]; · iexact Hsem
  iexists _; isplitr
  swap; · iexact HO
  ipureintro; intro p hp
  rcases Finset.mem_insert.mp hp with hp | hp
  · exact .inr (hp ▸ rfl)
  · exact hW' p hp

theorem gat_step {Q : PUnit.{1} → sProp 𝕄} (r : Fin 6) (s : Fin 3) (q : PosShare TreeShare) (h : InRange I) (fx : S576.Idx → Elt F .i32) (fr : S3x96x2x128.Idx → Elt F .f32)
    {k : PUnit → TP (F := F) L} :
    iprop(tPts d L T q ∗ sPts d L s fr ∗ lPts d L r (fetched L I fx) ∗ semVal (thr d L, SemLoc.dma (gsem s)) 0)
      ⊢ iprop((Transfers.Flight countersEmb (thr d L) (.dma (gsem s)) (default : HIx 1) (NG s)
            iprop(sPts d L s (gotten L T I r s fx h fr) ∗ tPts d L T q ∗ lPts d L r (fetched L I fx))
          -∗ wp frame (wpE (defs₀ (F := F)) 𝒱₀ (thr d L) none) Set.univ (k ⟨⟩) Q)
        -∗ wp frame (wpE (defs₀ (F := F)) 𝒱₀ (thr d L) none) Set.univ (gatP L r s >>= k) Q) :=
  SparseCore.wp_indirectGatherLocal countersEmb 𝒱₀ (thr d L) none (hg := gathers_S1032x2x128_S96x2x128) (default : HIx 1)
    (NG s) (gat_credit s) (by decide) (lst_inRange L r h fx)

theorem got_step {Q : PUnit.{1} → sProp 𝕄} (s : Fin 3) {k : PUnit → TP (F := F) L} {A : sProp 𝕄} (O : CellTallies nD τ sig (HIx 1)) (W : Waits sig (HIx 1)) :
    iprop(Transfers.Flight countersEmb (thr d L) (.dma (gsem s)) (default : HIx 1) (NG s) A ∗ OW d L O W ∗ Transfers.MayWaits (thr d L) (default : HIx 1) O)
      ⊢ iprop((iprop(A ∗ semVal (thr d L, .dma (gsem s)) 0 ∗ OW d L O W) -∗ wp frame (wpE (defs₀ (F := F)) 𝒱₀ (thr d L) none) Set.univ (k ⟨⟩) Q)
          -∗ wp frame (wpE (defs₀ (F := F)) 𝒱₀ (thr d L) none) Set.univ (gotP L s >>= k) Q) :=
  wait_step d L rfl O W

theorem put_step {Q : PUnit.{1} → sProp 𝕄} (r : Fin 6) (s : Fin 3) (fr : S3x96x2x128.Idx → Elt F .f32) (fo : S18432x2x128.Idx → Elt F .f32)
    {k : PUnit → TP (F := F) L} :
    iprop(sPts d L s fr ∗ oPts d L r fo ∗ semVal (thr d L, SemLoc.dma cc0_scratch3.sem) 0)
      ⊢ iprop((Transfers.Flight countersEmb (thr d L) (.dma cc0_scratch3.sem) (default : HIx 1) (NP L r)
            iprop(oPts d L r ((oBlk L r).view.write (Elt F) fo ((slot s).view.read (Elt F) fr) Finset.univ) ∗ sPts d L s fr)
          -∗ wp frame (wpE (defs₀ (F := F)) 𝒱₀ (thr d L) none) Set.univ (k ⟨⟩) Q)
        -∗ wp frame (wpE (defs₀ (F := F)) 𝒱₀ (thr d L) none) Set.univ (putP L r s >>= k) Q) :=
  Transfers.wp_dmaLocal countersEmb 𝒱₀ (thr d L) none (src := slot s) (via := ReadAs.same) (dst := oBlk L r) (sm := SemLoc.dma cc0_scratch3.sem) (q := fullShare) (fs := fr) (fd := fo) (default : HIx 1) (NP L r) rfl (NP_pos L r) (Finset.Subset.refl _)

theorem don_step {Q : PUnit.{1} → sProp 𝕄} (r : Fin 6) (s : Fin 3) (h : InRange I) (fx : S576.Idx → Elt F .i32) (fr : S3x96x2x128.Idx → Elt F .f32) (fo : S18432x2x128.Idx → Elt F .f32)
    {k : PUnit → TP (F := F) L} (O : CellTallies nD τ sig (HIx 1)) (W : Waits sig (HIx 1)) :
    iprop(Transfers.Flight countersEmb (thr d L) (.dma cc0_scratch3.sem) (default : HIx 1) (NP L r)
        iprop(oPts d L r ((oBlk L r).view.write (Elt F) fo ((slot s).view.read (Elt F) (gotten L T I r s fx h fr)) Finset.univ) ∗ sPts d L s (gotten L T I r s fx h fr))
      ∗ OW d L O W ∗ Transfers.MayWaits (thr d L) (default : HIx 1) O)
      ⊢ iprop((iprop((oPts d L r (Out T I) ∗ sPts d L s (gotten L T I r s fx h fr)) ∗ semVal (thr d L, .dma cc0_scratch3.sem) 0 ∗ OW d L O W)
            -∗ wp frame (wpE (defs₀ (F := F)) 𝒱₀ (thr d L) none) Set.univ (k ⟨⟩) Q)
          -∗ wp frame (wpE (defs₀ (F := F)) 𝒱₀ (thr d L) none) Set.univ (donP L r s >>= k) Q) := by
  rw [show (oPts d L r ((oBlk L r).view.write (Elt F) fo ((slot s).view.read (Elt F) (gotten L T I r s fx h fr)) Finset.univ) : sProp 𝕄) = oPts d L r (Out T I) from
    pointsTo_congr (put_eq L r s T I fx h fo fr)]
  exact wait_step d L rfl O W

theorem fetch_step {Q : PUnit.{1} → sProp 𝕄} (fx : S576.Idx → Elt F .i32) {k : PUnit → TP (F := F) L} :
    iprop(iPts d L I ∗ xPts d L fx ∗ semVal (thr d L, SemLoc.dma cc0_scoped0.sem) 0)
      ⊢ iprop((Transfers.Flight countersEmb (thr d L) (.dma cc0_scoped0.sem) (default : HIx 1) ((xV).view.dmaCredit)
            iprop(xPts d L (fetched L I fx) ∗ iPts d L I)
          -∗ wp frame (wpE (defs₀ (F := F)) 𝒱₀ (thr d L) none) Set.univ (k ⟨⟩) Q)
        -∗ wp frame (wpE (defs₀ (F := F)) 𝒱₀ (thr d L) none) Set.univ (fetchP L >>= k) Q) :=
  Transfers.wp_dmaLocal countersEmb 𝒱₀ (thr d L) none (src := iBlk L) (via := ReadAs.same) (dst := xV) (sm := SemLoc.dma cc0_scoped0.sem) (q := fullShare) (fs := I) (fd := fx) (default : HIx 1) ((xV).view.dmaCredit) rfl NX_pos (Finset.Subset.refl _)

theorem fetched_step {Q : PUnit.{1} → sProp 𝕄} {k : PUnit → TP (F := F) L} {A : sProp 𝕄} (O : CellTallies nD τ sig (HIx 1)) (W : Waits sig (HIx 1)) :
    iprop(Transfers.Flight countersEmb (thr d L) (.dma cc0_scoped0.sem) (default : HIx 1) ((xV).view.dmaCredit) A ∗ OW d L O W ∗ Transfers.MayWaits (thr d L) (default : HIx 1) O)
      ⊢ iprop((iprop(A ∗ semVal (thr d L, .dma cc0_scoped0.sem) 0 ∗ OW d L O W) -∗ wp frame (wpE (defs₀ (F := F)) 𝒱₀ (thr d L) none) Set.univ (k ⟨⟩) Q)
          -∗ wp frame (wpE (defs₀ (F := F)) 𝒱₀ (thr d L) none) Set.univ (fetchedP L >>= k) Q) :=
  wait_step d L rfl O W

/-! ## The last three copies out, together on one semaphore -/

/-- Block `3 + t`, from slot `t`. -/
abbrev blkOf (t : Fin 3) : Fin 6 := ⟨3 + t.val, by omega⟩
abbrev DD (t : Fin 3) : sProp 𝕄 := iprop(oPts d L (blkOf t) (Out T I) ∗ ∃ f, sPts d L t f)
abbrev NB : ℕ := (oBlk L 3).view.dmaCredit

theorem bput_step {Q : PUnit.{1} → sProp 𝕄} (t : Fin 3) (h : InRange I) (fx : S576.Idx → Elt F .i32) (fr : S3x96x2x128.Idx → Elt F .f32) (fo : S18432x2x128.Idx → Elt F .f32)
    {k : PUnit → TP (F := F) L} :
    iprop(sPts d L t (gotten L T I (blkOf t) t fx h fr) ∗ oPts d L (blkOf t) fo ∗ Transfers.Batch countersEmb (thr d L) (.dma cc0_scratch3.sem) (default : HIx 1) (NB L) (DD d L T I) t.val 0)
      ⊢ iprop((Transfers.Batch countersEmb (thr d L) (.dma cc0_scratch3.sem) (default : HIx 1) (NB L) (DD d L T I) (t.val + 1) 0
          -∗ wp frame (wpE (defs₀ (F := F)) 𝒱₀ (thr d L) none) Set.univ (k ⟨⟩) Q)
        -∗ wp frame (wpE (defs₀ (F := F)) 𝒱₀ (thr d L) none) Set.univ (putP L (blkOf t) t >>= k) Q) :=
  Transfers.wp_dmaBatch countersEmb 𝒱₀ (thr d L) none (default : HIx 1) (NB L) rfl (Finset.Subset.refl _) t.isLt (Nat.zero_le _) (by
    rw [show ((oBlk L (blkOf t)).view.loc (thr d L) ↦[(oBlk L (blkOf t)).view.set]{fullShare} ((oBlk L (blkOf t)).view.write (Elt F) fo
        (ReadAs.same.apply ((slot t).view.read (Elt F) (gotten L T I (blkOf t) t fx h fr))) Finset.univ) : sProp 𝕄) = oPts d L (blkOf t) (Out T I) from
      pointsTo_congr (put_eq L (blkOf t) t T I fx h fo fr)]
    iintro ⟨Ho, Hs⟩
    isplitl [Ho]; · iexact Ho
    iexists _; iexact Hs)

/-- A wait that is not the last: which copies have ended is not known yet. -/
theorem bdon_step {Q : PUnit.{1} → sProp 𝕄} (r : Fin 6) (s : Fin 3) (n : ℕ) (hn : n + 1 < 3) {k : PUnit → TP (F := F) L} (O : CellTallies nD τ sig (HIx 1)) (W : Waits sig (HIx 1)) :
    iprop(Transfers.Batch countersEmb (thr d L) (.dma cc0_scratch3.sem) (default : HIx 1) (NB L) (DD d L T I) 3 (n * NB L) ∗ OW d L O W ∗ Transfers.MayWaits (thr d L) (default : HIx 1) O)
      ⊢ iprop((iprop(Transfers.Batch countersEmb (thr d L) (.dma cc0_scratch3.sem) (default : HIx 1) (NB L) (DD d L T I) 3 ((n + 1) * NB L) ∗ OW d L O W)
            -∗ wp frame (wpE (defs₀ (F := F)) 𝒱₀ (thr d L) none) Set.univ (k ⟨⟩) Q)
          -∗ wp frame (wpE (defs₀ (F := F)) 𝒱₀ (thr d L) none) Set.univ (donP L r s >>= k) Q) := by
  have hu : n * NB L + NB L < NB L * 3 := by
    have := NP_pos L 3
    rw [Nat.mul_comm (NB L) 3, ← Nat.succ_mul]; exact Nat.mul_lt_mul_of_pos_right hn this
  rw [Nat.succ_mul]
  unfold OW
  iintro ⟨HB, ⟨%W', %hW', HO⟩, Hmw⟩ Hk
  have key : iprop(Transfers.Batch countersEmb (thr d L) (.dma cc0_scratch3.sem) (default : HIx 1) (NB L) (DD d L T I) 3 (n * NB L) ∗ owes (thr d L) O W' ∗ MayWait (thr d L) (.dma cc0_scratch3.sem) (default : HIx 1) O)
      ⊢ iprop((iprop(Transfers.Batch countersEmb (thr d L) (.dma cc0_scratch3.sem) (default : HIx 1) (NB L) (DD d L T I) 3 (n * NB L + NB L) ∗ owes (thr d L) O (insert (SemLoc.dma cc0_scratch3.sem, (default : HIx 1)) W'))
            -∗ wp frame (wpE (defs₀ (F := F)) 𝒱₀ (thr d L) none) Set.univ (k ⟨⟩) Q)
          -∗ wp frame (wpE (defs₀ (F := F)) 𝒱₀ (thr d L) none) Set.univ (donP L r s >>= k) Q) := by
    exact Transfers.wp_waitBatchO countersEmb 𝒱₀ (thr d L) none (srcw := slot s) (dstw := oBlk L r) (hsrc := (View.wordExact_bits rfl).reshape _ _) (hdst := View.wordExact_bits rfl) (k := k) (default : HIx 1) rfl hu
  iapply key $$ [HB HO Hmw]
  · isplitl [HB]; · iexact HB
    isplitl [HO]; · iexact HO
    iapply (Transfers.MayWaits.elim (SemLoc.dma cc0_scratch3.sem)) $$ Hmw
  iintro ⟨HB, HO⟩
  iapply Hk
  isplitl [HB]; · iexact HB
  iexists _; isplitr
  swap; · iexact HO
  ipureintro; intro p hp
  rcases Finset.mem_insert.mp hp with hp | hp
  · exact .inr (hp ▸ rfl)
  · exact hW' p hp

/-- The last wait: all three copies have ended. -/
theorem blast_step {Q : PUnit.{1} → sProp 𝕄} {k : PUnit → TP (F := F) L} (O : CellTallies nD τ sig (HIx 1)) (W : Waits sig (HIx 1)) :
    iprop(Transfers.Batch countersEmb (thr d L) (.dma cc0_scratch3.sem) (default : HIx 1) (NB L) (DD d L T I) 3 (2 * NB L) ∗ OW d L O W ∗ Transfers.MayWaits (thr d L) (default : HIx 1) O)
      ⊢ iprop((iprop(bigSep Finset.univ (DD d L T I) ∗ semVal (thr d L, .dma cc0_scratch3.sem) 0 ∗ OW d L O W)
            -∗ wp frame (wpE (defs₀ (F := F)) 𝒱₀ (thr d L) none) Set.univ (k ⟨⟩) Q)
          -∗ wp frame (wpE (defs₀ (F := F)) 𝒱₀ (thr d L) none) Set.univ (donP L 5 2 >>= k) Q) := by
  have hu : 2 * NB L + NB L = NB L * 3 := by omega
  unfold OW
  iintro ⟨HB, ⟨%W', %hW', HO⟩, Hmw⟩ Hk
  have key : iprop(Transfers.Batch countersEmb (thr d L) (.dma cc0_scratch3.sem) (default : HIx 1) (NB L) (DD d L T I) 3 (2 * NB L) ∗ owes (thr d L) O W' ∗ MayWait (thr d L) (.dma cc0_scratch3.sem) (default : HIx 1) O)
      ⊢ iprop((iprop(bigSep Finset.univ (DD d L T I) ∗ semVal (thr d L, .dma cc0_scratch3.sem) 0 ∗ owes (thr d L) O (insert (SemLoc.dma cc0_scratch3.sem, (default : HIx 1)) W'))
            -∗ wp frame (wpE (defs₀ (F := F)) 𝒱₀ (thr d L) none) Set.univ (k ⟨⟩) Q)
          -∗ wp frame (wpE (defs₀ (F := F)) 𝒱₀ (thr d L) none) Set.univ (donP L 5 2 >>= k) Q) := by
    exact Transfers.wp_waitBatchLastO countersEmb 𝒱₀ (thr d L) none (srcw := slot 2) (dstw := oBlk L 5) (hsrc := (View.wordExact_bits rfl).reshape _ _) (hdst := View.wordExact_bits rfl) (k := k) (default : HIx 1) rfl (NP_pos L 3) hu
  iapply key $$ [HB HO Hmw]
  · isplitl [HB]; · iexact HB
    isplitl [HO]; · iexact HO
    iapply (Transfers.MayWaits.elim (SemLoc.dma cc0_scratch3.sem)) $$ Hmw
  iintro ⟨HD, Hp, HO⟩
  iapply Hk
  isplitl [HD]; · iexact HD
  isplitl [Hp]; · iexact Hp
  iexists _; isplitr
  swap; · iexact HO
  ipureintro; intro p hp
  rcases Finset.mem_insert.mp hp with hp | hp
  · exact .inr (hp ▸ rfl)
  · exact hW' p hp

end Steps

end Cert.Gi

end
-- ==== Proof.GiTile.lean ====
/-
  One tile of the gather call, run: from its 576 indices, a share of the table and its six blocks of the result, to the
  same with the six blocks holding the table rows the indices name.
-/
module

public import proofs.«01_k».proof.Proof.GiStep

@[expose] public section

noncomputable section

namespace Cert.Gi

open Cert.GatherIdeal Cert.GatherIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem sep3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]
theorem sep6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

section Tile

variable (d : Dev nD) (L : grid0.Coords)

/-! ## The tile's own buffers and semaphores -/

abbrev gCell (s : Fin 3) : GSem nD τ sig := (thr d L, .dma (gsem s))
abbrev pCell : GSem nD τ sig := (thr d L, .dma cc0_scratch3.sem)
abbrev fCell : GSem nD τ sig := (thr d L, .dma cc0_scoped0.sem)

theorem ownSems0_tile :
    (ownSems0 (thr d L) : sProp 𝕄)
      = iprop(semVal (fCell d L) 0 ∗ semVal (pCell d L) 0 ∗ semVal (gCell d L 0) 0 ∗ semVal (gCell d L 1) 0 ∗ semVal (gCell d L 2) 0
          ∗ bigSep ((((((ownCells (thr d L)).erase (fCell d L)).erase (pCell d L)).erase (gCell d L 0)).erase (gCell d L 1)).erase (gCell d L 2)) fun g => semVal g 0) := by
  have hf : fCell d L ∈ ownCells (thr d L) := mem_ownCells.mpr ⟨rfl, by
    show (SemLoc.dma cc0_scoped0.sem : SemLoc sig).isScoped .scVector = true; decide⟩
  have hp : pCell d L ∈ ownCells (thr d L) := mem_ownCells.mpr ⟨rfl, by
    show (SemLoc.dma cc0_scratch3.sem : SemLoc sig).isScoped .scVector = true; decide⟩
  have hg : ∀ s, gCell d L s ∈ ownCells (thr d L) := fun s => mem_ownCells.mpr ⟨rfl, by
    show (SemLoc.dma (gsem s) : SemLoc sig).isScoped .scVector = true; revert s; decide⟩
  have hne : ∀ {a b : SemLoc sig}, a ≠ b → ((thr d L, a) : GSem nD τ sig) ≠ (thr d L, b) := fun h e => h (congrArg Prod.snd e)
  unfold SparseCore.Cfg.ownSems0
  rw [SparseCore.bigSep_erase' hf,
    SparseCore.bigSep_erase' (Finset.mem_erase.mpr ⟨hne (by decide), hp⟩),
    SparseCore.bigSep_erase' (Finset.mem_erase.mpr ⟨hne (by decide), Finset.mem_erase.mpr ⟨hne (by decide), hg 0⟩⟩),
    SparseCore.bigSep_erase' (Finset.mem_erase.mpr ⟨hne (by decide), Finset.mem_erase.mpr ⟨hne (by decide), Finset.mem_erase.mpr ⟨hne (by decide), hg 1⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hg 2⟩⟩⟩⟩)]

theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem xPts_whole (f : S576.Idx → Elt F .i32) : ((thr d L).loc cc0_scratch0 ↦{fullShare} f : sProp 𝕄) = xPts d L f := by
  unfold xPts; rw [show (xV).view.set = Finset.univ from View.set_whole _]

theorem xPts_lists (f : S576.Idx → Elt F .i32) :
    (xPts d L f : sProp 𝕄) = iprop(lPts d L 0 f ∗ lPts d L 1 f ∗ lPts d L 2 f ∗ lPts d L 3 f ∗ lPts d L 4 f ∗ lPts d L 5 f) := by
  rw [← xPts_whole, ← lst_cover, ← sep6 (fun r => lPts d L r f)]
  exact pointsTo_biUnion Finset.univ (ℓ := (thr d L).loc cc0_scratch0) lstS (fun r _ r' _ h => lst_disjoint r r' h)

theorem sPts_slots (f : S3x96x2x128.Idx → Elt F .f32) :
    ((thr d L).loc cc0_scratch1 ↦{fullShare} f : sProp 𝕄) = iprop(sPts d L 0 f ∗ sPts d L 1 f ∗ sPts d L 2 f) := by
  rw [← slot_cover, ← sep3 (fun s => sPts d L s f)]
  exact pointsTo_biUnion Finset.univ (ℓ := (thr d L).loc cc0_scratch1) slotS (fun r _ r' _ h => slot_disjoint r r' h)

theorem sPts_join (f0 f1 f2 : S3x96x2x128.Idx → Elt F .f32) :
    iprop(sPts d L 0 f0 ∗ sPts d L 1 f1 ∗ sPts d L 2 f2) ⊢ (iprop(∃ f, (thr d L).loc cc0_scratch1 ↦{fullShare} f) : sProp 𝕄) := by
  let fs : Fin 3 → (S3x96x2x128.Idx → Elt F .f32) := fun s => match s with | 0 => f0 | 1 => f1 | 2 => f2
  refine (Entails.of_eq (sep3 (fun s => sPts d L s (fs s))).symm).trans ?_
  refine (pointsTo_biUnion_join (ℓ := (thr d L).loc cc0_scratch1) (q := fullShare) (Val := Elt F) Finset.univ slotS fs f0 (fun r _ r' _ h => slot_disjoint r r' h)).trans ?_
  rw [slot_cover]
  iintro ⟨%g, -, Hg⟩
  iexists g; iexact Hg

/-- Three shares of the table, one for each gather in flight. -/
abbrev q3 (q : PosShare TreeShare) (s : Fin 3) : PosShare TreeShare := Transfers.dealOf q Finset.univ s
theorem tPts_three (T : S1032x2x128.Idx → Elt F .f32) (q : PosShare TreeShare) :
    (tPts d L T q : sProp 𝕄) = iprop(tPts d L T (q3 q 0) ∗ tPts d L T (q3 q 1) ∗ tPts d L T (q3 q 2)) := by
  rw [← sep3 (fun s => tPts d L T (q3 q s))]
  exact Transfers.pointsTo_deal Finset.univ ⟨0, Finset.mem_univ _⟩ q

/-! ## The tile -/

variable (T : S1032x2x128.Idx → Elt F .f32) (I : S18432.Idx → Elt F .i32) (q : PosShare TreeShare)

/-- What a tile is given: its indices, a share of the table, its six blocks at whatever they hold. -/
abbrev goT : sProp 𝕄 := iprop(iPts d L I ∗ tPts d L T q ∗ bigSep Finset.univ fun r : Fin 6 => iprop(∃ f, oPts d L r f))
/-- What it brings back: the same, the blocks at the gathered rows. -/
abbrev tdT : sProp 𝕄 := iprop(iPts d L I ∗ tPts d L T q ∗ bigSep Finset.univ fun r : Fin 6 => oPts d L r (Out T I))

set_option maxHeartbeats 4000000 in
theorem tile_body (hF : (K (F := F)).Facts) (h : InRange I) (O : CellTallies nD τ sig (HIx 1)) (W : Waits sig (HIx 1)) (hO : ∀ g, O g none = 0) :
    iprop(levAts (K (F := F)).L (K (F := F)).lev ∗ emp ∗ goT d L T I q ∗ scopedBufs (thr d L) ∗ scopedSems0 (thr d L) ∗ owes (thr d L) O W)
      ⊢ wp frame (wpE (defs₀ (F := F)) 𝒱₀ (thr d L) none) Set.univ
          (cc0__sc_gather_body (F := F) L tV (Memref.isWhole_whole _) iV (Memref.isWhole_whole _) oV (Memref.isWhole_whole _)
            xV (Memref.isWhole_whole _) rV (Memref.isWhole_whole _) cc0_scratch2 cc0_scratch3 cc0_scoped0)
          fun _ => iprop(tdT d L T I q ∗ scopedBufs (thr d L) ∗ scopedSems0 (thr d L)
            ∗ ∃ W', ⌜∀ p ∈ W', p ∈ W ∨ p.2 = none⌝ ∗ owes (thr d L) O W') := by
  rw [body_eq]; unfold bodyP
  rw [(K (F := F)).scopedBufs_V hF d (cV L) (jV L), SparseCore.Cfg.scopedSems0_V (Val := Elt F) d (cV L) (jV L), ownSems0_tile, ownBufs_tile]
  unfold goT tdT
  rw [sep6 (fun r => iprop(∃ f, oPts d L r f)), sep6 (fun r => oPts d L r (Out T I)), tPts_three]
  iintro ⟨#Hlv, -, ⟨Hi, ⟨Ht0, Ht1, Ht2⟩, ⟨%fo0, Ho0⟩, ⟨%fo1, Ho1⟩, ⟨%fo2, Ho2⟩, ⟨%fo3, Ho3⟩, ⟨%fo4, Ho4⟩, ⟨%fo5, Ho5⟩⟩,
    ⟨⟨%fx, Hx⟩, ⟨%fr, Hr⟩, Hbufs⟩, ⟨Hf, Hp, Hg0, Hg1, Hg2, Hsems⟩, HO⟩
  ihave #Hmw := (show levAts (K (F := F)).L (K (F := F)).lev ⊢ Transfers.MayWaits (thr d L) (default : HIx 1) O from
    (K (F := F)).mayWaits_none (thr := thr d L) hO) $$ Hlv
  ihave HO := (show (owes (thr d L) O W : sProp 𝕄) ⊢ OW d L O W by
    unfold OW; iintro HO; iexists W; isplitr; · ipureintro; exact fun p hp => .inl hp
    iexact HO) $$ HO
  ihave Hx := (Entails.of_eq (xPts_whole d L fx)) $$ Hx
  ihave Hr := (Entails.of_eq (sPts_slots d L fr)) $$ Hr
  icases Hr with ⟨Hr0, Hr1, Hr2⟩
  -- the indices
  iapply (fetch_step d L I fx) $$ [Hi Hx Hf]
  · isplitl [Hi]; · iexact Hi
    isplitl [Hx]; · iexact Hx
    iexact Hf
  iintro Hfl
  iapply (fetched_step d L O W) $$ [Hfl HO]
  · isplitl [Hfl]; · iexact Hfl
    isplitl [HO]; · iexact HO
    iexact Hmw
  iintro ⟨⟨Hx, Hi⟩, Hf, HO⟩
  ihave Hx := (Entails.of_eq (xPts_lists d L _)) $$ Hx
  icases Hx with ⟨Hl0, Hl1, Hl2, Hl3, Hl4, Hl5⟩
  -- three gathers in flight
  iapply (gat_step d L T I 0 0 (q3 q 0) h fx fr) $$ [Ht0 Hr0 Hl0 Hg0]
  · isplitl [Ht0]; · iexact Ht0
    isplitl [Hr0]; · iexact Hr0
    isplitl [Hl0]; · iexact Hl0
    iexact Hg0
  iintro Hf0
  iapply (gat_step d L T I 1 1 (q3 q 1) h fx fr) $$ [Ht1 Hr1 Hl1 Hg1]
  · isplitl [Ht1]; · iexact Ht1
    isplitl [Hr1]; · iexact Hr1
    isplitl [Hl1]; · iexact Hl1
    iexact Hg1
  iintro Hf1
  iapply (gat_step d L T I 2 2 (q3 q 2) h fx fr) $$ [Ht2 Hr2 Hl2 Hg2]
  · isplitl [Ht2]; · iexact Ht2
    isplitl [Hr2]; · iexact Hr2
    isplitl [Hl2]; · iexact Hl2
    iexact Hg2
  iintro Hf2
  -- block 0
  iapply (got_step d L 0 O W) $$ [Hf0 HO]
  · isplitl [Hf0]; · iexact Hf0
    isplitl [HO]; · iexact HO
    iexact Hmw
  iintro ⟨⟨Hr0, Ht0, Hl0⟩, Hg0, HO⟩
  iapply (put_step d L 0 0 _ fo0) $$ [Hr0 Ho0 Hp]
  · isplitl [Hr0]; · iexact Hr0
    isplitl [Ho0]; · iexact Ho0
    iexact Hp
  iintro Hfl
  iapply (don_step d L T I 0 0 h fx fr fo0 O W) $$ [Hfl HO]
  · isplitl [Hfl]; · iexact Hfl
    isplitl [HO]; · iexact HO
    iexact Hmw
  iintro ⟨⟨Ho0, Hr0⟩, Hp, HO⟩
  iapply (gat_step d L T I 3 0 (q3 q 0) h fx _) $$ [Ht0 Hr0 Hl3 Hg0]
  · isplitl [Ht0]; · iexact Ht0
    isplitl [Hr0]; · iexact Hr0
    isplitl [Hl3]; · iexact Hl3
    iexact Hg0
  iintro Hf0
  -- block 1
  iapply (got_step d L 1 O W) $$ [Hf1 HO]
  · isplitl [Hf1]; · iexact Hf1
    isplitl [HO]; · iexact HO
    iexact Hmw
  iintro ⟨⟨Hr1, Ht1, Hl1⟩, Hg1, HO⟩
  iapply (put_step d L 1 1 _ fo1) $$ [Hr1 Ho1 Hp]
  · isplitl [Hr1]; · iexact Hr1
    isplitl [Ho1]; · iexact Ho1
    iexact Hp
  iintro Hfl
  iapply (don_step d L T I 1 1 h fx fr fo1 O W) $$ [Hfl HO]
  · isplitl [Hfl]; · iexact Hfl
    isplitl [HO]; · iexact HO
    iexact Hmw
  iintro ⟨⟨Ho1, Hr1⟩, Hp, HO⟩
  iapply (gat_step d L T I 4 1 (q3 q 1) h fx _) $$ [Ht1 Hr1 Hl4 Hg1]
  · isplitl [Ht1]; · iexact Ht1
    isplitl [Hr1]; · iexact Hr1
    isplitl [Hl4]; · iexact Hl4
    iexact Hg1
  iintro Hf1
  -- block 2
  iapply (got_step d L 2 O W) $$ [Hf2 HO]
  · isplitl [Hf2]; · iexact Hf2
    isplitl [HO]; · iexact HO
    iexact Hmw
  iintro ⟨⟨Hr2, Ht2, Hl2⟩, Hg2, HO⟩
  iapply (put_step d L 2 2 _ fo2) $$ [Hr2 Ho2 Hp]
  · isplitl [Hr2]; · iexact Hr2
    isplitl [Ho2]; · iexact Ho2
    iexact Hp
  iintro Hfl
  iapply (don_step d L T I 2 2 h fx fr fo2 O W) $$ [Hfl HO]
  · isplitl [Hfl]; · iexact Hfl
    isplitl [HO]; · iexact HO
    iexact Hmw
  iintro ⟨⟨Ho2, Hr2⟩, Hp, HO⟩
  iapply (gat_step d L T I 5 2 (q3 q 2) h fx _) $$ [Ht2 Hr2 Hl5 Hg2]
  · isplitl [Ht2]; · iexact Ht2
    isplitl [Hr2]; · iexact Hr2
    isplitl [Hl5]; · iexact Hl5
    iexact Hg2
  iintro Hf2
  -- blocks 3, 4, 5: their copies out together on the one semaphore
  imod (Transfers.batch_alloc' countersEmb (c := thr d L) (sm := SemLoc.dma cc0_scratch3.sem) (default : HIx 1) (NB L) (DD d L T I)) $$ Hp with HB
  iapply (got_step d L 0 O W) $$ [Hf0 HO]
  · isplitl [Hf0]; · iexact Hf0
    isplitl [HO]; · iexact HO
    iexact Hmw
  iintro ⟨⟨Hr0, Ht0, Hl3⟩, Hg0, HO⟩
  iapply (bput_step d L T I 0 h fx _ fo3) $$ [Hr0 Ho3 HB]
  · isplitl [Hr0]; · iexact Hr0
    isplitl [Ho3]; · iexact Ho3
    iexact HB
  iintro HB
  iapply (got_step d L 1 O W) $$ [Hf1 HO]
  · isplitl [Hf1]; · iexact Hf1
    isplitl [HO]; · iexact HO
    iexact Hmw
  iintro ⟨⟨Hr1, Ht1, Hl4⟩, Hg1, HO⟩
  iapply (bput_step d L T I 1 h fx _ fo4) $$ [Hr1 Ho4 HB]
  · isplitl [Hr1]; · iexact Hr1
    isplitl [Ho4]; · iexact Ho4
    iexact HB
  iintro HB
  iapply (got_step d L 2 O W) $$ [Hf2 HO]
  · isplitl [Hf2]; · iexact Hf2
    isplitl [HO]; · iexact HO
    iexact Hmw
  iintro ⟨⟨Hr2, Ht2, Hl5⟩, Hg2, HO⟩
  iapply (bput_step d L T I 2 h fx _ fo5) $$ [Hr2 Ho5 HB]
  · isplitl [Hr2]; · iexact Hr2
    isplitl [Ho5]; · iexact Ho5
    iexact HB
  iintro HB
  iapply (bdon_step d L T I 3 0 0 (by decide) O W) $$ [HB HO]
  · isplitl [HB]; · iexact HB
    isplitl [HO]; · iexact HO
    iexact Hmw
  iintro ⟨HB, HO⟩
  iapply (bdon_step d L T I 4 1 1 (by decide) O W) $$ [HB HO]
  · isplitl [HB]; · iexact HB
    isplitl [HO]; · iexact HO
    iexact Hmw
  iintro ⟨HB, HO⟩
  iapply (blast_step d L T I O W) $$ [HB HO]
  · isplitl [HB]; · iexact HB
    isplitl [HO]; · iexact HO
    iexact Hmw
  iintro ⟨HD, Hp, HO⟩
  ihave HD := (Entails.of_eq (sep3 (DD d L T I))) $$ HD
  icases HD with ⟨⟨Ho3, %g0, Hr0⟩, ⟨Ho4, %g1, Hr1⟩, ⟨Ho5, %g2, Hr2⟩⟩
  rw [wp_ret]; imodintro
  isplitl [Hi Ht0 Ht1 Ht2 Ho0 Ho1 Ho2 Ho3 Ho4 Ho5]
  · isplitl [Hi]; · iexact Hi
    isplitl [Ht0 Ht1 Ht2]
    · isplitl [Ht0]; · iexact Ht0
      isplitl [Ht1]; · iexact Ht1
      iexact Ht2
    isplitl [Ho0]; · iexact Ho0
    isplitl [Ho1]; · iexact Ho1
    isplitl [Ho2]; · iexact Ho2
    isplitl [Ho3]; · iexact Ho3
    isplitl [Ho4]; · iexact Ho4
    iexact Ho5
  isplitl [Hl0 Hl1 Hl2 Hl3 Hl4 Hl5 Hr0 Hr1 Hr2 Hbufs]
  · isplitl [Hl0 Hl1 Hl2 Hl3 Hl4 Hl5]
    · iexists (fetched L I fx)
      iapply (Entails.of_eq ((xPts_whole d L (fetched L I fx)).trans (xPts_lists d L _)).symm)
      isplitl [Hl0]; · iexact Hl0
      isplitl [Hl1]; · iexact Hl1
      isplitl [Hl2]; · iexact Hl2
      isplitl [Hl3]; · iexact Hl3
      isplitl [Hl4]; · iexact Hl4
      iexact Hl5
    isplitl [Hr0 Hr1 Hr2]
    · iapply (sPts_join d L g0 g1 g2)
      isplitl [Hr0]; · iexact Hr0
      isplitl [Hr1]; · iexact Hr1
      iexact Hr2
    iexact Hbufs
  isplitl [Hf Hp Hg0 Hg1 Hg2 Hsems]
  · isplitl [Hf]; · iexact Hf
    isplitl [Hp]; · iexact Hp
    isplitl [Hg0]; · iexact Hg0
    isplitl [Hg1]; · iexact Hg1
    isplitl [Hg2]; · iexact Hg2
    iexact Hsems
  unfold OW; iexact HO

end Tile

end Cert.Gi

end
-- ==== Proof.GiRun.lean ====
/-
  The gather program, run: the host pads the table with eight zero rows and lays each row out as two lines, the call
  deals the indices and the result blocks over the thirty-two tiles and the table in as many shares, the tiles return
  the gathered rows, and the host lays them out as the three-dimensional result.
-/
module

public import proofs.«01_k».proof.Proof.GiTile

@[expose] public section

noncomputable section

namespace Cert.Gi

open Cert.GatherIdeal Cert.GatherIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

abbrev Ib (d : Dev nD) : S18432.Idx → Elt F .i32 := m (iLoc d)
/-- The codebook as launched, padded and laid out. -/
abbrev Pad (cb : S1024x256.Idx → Elt F .f32) : S1032x256.Idx → Elt F .f32 :=
  concatenate S1032x256 0 [⟨S1024x256, cb⟩, ⟨S8x256, broadcastInDim S8x256 ![] bcast_S_S8x256 (constant (F := F) S_ .f32 0x00000000#32)⟩]
    concatenates_S1024x256_S8x256_S1032x256_d0
abbrev TbOf (cb : S1024x256.Idx → Elt F .f32) : S1032x2x128.Idx → Elt F .f32 := shapeCast S1032x2x128 (Pad cb) shapeCasts_S1032x256_S1032x2x128
abbrev Tb (d : Dev nD) : S1032x2x128.Idx → Elt F .f32 := TbOf (m ((SparseCore.T d).loc main_arg1))
/-- The result. -/
abbrev RvOf (cb : S1024x256.Idx → Elt F .f32) (ix : S18432.Idx → Elt F .i32) : S32x576x256.Idx → Elt F .f32 :=
  shapeCast S32x576x256 (Out (TbOf cb) ix) shapeCasts_S18432x2x128_S32x576x256
abbrev Rv (d : Dev nD) : S32x576x256.Idx → Elt F .f32 := RvOf (m ((SparseCore.T d).loc main_arg1)) (Ib m d)

/-! ## The tiles' parts -/

/-- The tile on core `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The table's share of the tile on core `c`, subcore `s`. -/
abbrev qW (c : Fin 2) (s : Fin 16) : PosShare TreeShare := Transfers.dealOf (Transfers.dealOf fullShare Finset.univ c) Finset.univ s

abbrev goW (d : Dev nD) (c : Fin 2) (s : Fin 16) : sProp 𝕄 := goT d (coords c s) (Tb m d) (Ib m d) (qW c s)
abbrev tdW (d : Dev nD) (c : Fin 2) (s : Fin 16) : sProp 𝕄 := tdT d (coords c s) (Tb m d) (Ib m d) (qW c s)

/-- The handshakes carry the tiles' parts. -/
def P : (K (F := F)).Pay (nD := nD) (Val := Elt F) (Name := ℕ) (U := UU) where
  st := fun q d c => match q with | 0 => bigSep Finset.univ fun s : Fin 16 => goW m d (Fin.cast nCore_zero c) s
  dn := fun q d c => match q with | 0 => bigSep Finset.univ fun s : Fin 16 => tdW m d (Fin.cast nCore_zero c) s
  go := fun q d c s => match q with | 0 => goW m d (Fin.cast nCore_zero c) (Fin.cast nSub_zero s)
  td := fun q d c s => match q with | 0 => tdW m d (Fin.cast nCore_zero c) (Fin.cast nSub_zero s)
  x := fun _ _ => iprop(emp)

instance P_storable : (P (F := F) m).IsStorable where
  st q d c := match q with
    | 0 => (inferInstance : BI.Storable (upEmb : UEmb _ 𝕄) (bigSep Finset.univ fun s : Fin 16 => goW m d (Fin.cast nCore_zero c) s))
  dn q d c := match q with
    | 0 => (inferInstance : BI.Storable (upEmb : UEmb _ 𝕄) (bigSep Finset.univ fun s : Fin 16 => tdW m d (Fin.cast nCore_zero c) s))
  go q d c s := match q with
    | 0 => (inferInstance : BI.Storable (upEmb : UEmb _ 𝕄) (goW m d (Fin.cast nCore_zero c) (Fin.cast nSub_zero s)))
  td q d c s := match q with
    | 0 => (inferInstance : BI.Storable (upEmb : UEmb _ 𝕄) (tdW m d (Fin.cast nCore_zero c) (Fin.cast nSub_zero s)))

/-! ## The tile's obligation -/

theorem defs₀_tile (c : Fin τ.nSC) (s : Fin τ.nSub) :
    defs₀ (F := F) (.scVector c s) 0 ()
      = SparseCore.onTile hcore0 hsub0 (fun c s => cc0__sc_gather_body (F := F) (coords c s) tV (Memref.isWhole_whole _) iV (Memref.isWhole_whole _) oV (Memref.isWhole_whole _)
            xV (Memref.isWhole_whole _) rV (Memref.isWhole_whole _) cc0_scratch2 cc0_scratch3 cc0_scoped0) ⟨⟩ c s := rfl

theorem waits_weaken {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (h : ∀ d, InRange (Ib m d)) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_tile]; simp only [SparseCore.onTile, hcs, and_self, ↓reduceDIte]
  exact (tile_body d (coords ⟨_, hcs.1⟩ ⟨_, hcs.2⟩) (Tb m d) (Ib m d) (qW (Fin.cast nCore_zero c) (Fin.cast nSub_zero s)) lfacts (h d) O W hO).trans
    (wp_mono frame _ _ fun _ => waits_weaken)

theorem vecSplit : (K (F := F)).VecSplit' (P m) 0 := by
  intro d c
  show (bigSep Finset.univ fun s : Fin 16 => goW m d (Fin.cast nCore_zero c) s) ⊢ |={Set.univ}=> iprop(
      (bigSep Finset.univ fun s : Fin ((K (F := F)).nSub 0) => goW m d (Fin.cast nCore_zero c) (Fin.cast nSub_zero s))
      ∗ ((bigSep Finset.univ fun s : Fin ((K (F := F)).nSub 0) => tdW m d (Fin.cast nCore_zero c) (Fin.cast nSub_zero s))
          -∗ bigSep Finset.univ fun s : Fin 16 => tdW m d (Fin.cast nCore_zero c) s))
  iintro H; imodintro
  isplitl [H]; · iexact H
  iintro H; iexact H

/-! ## Dealing the arrays over the tiles -/

abbrev iSet (w : Fin 2 × Fin 16) : Finset S18432.Idx := (iBlk (coords w.1 w.2)).view.set
abbrev oSet (w : (Fin 2 × Fin 16) × Fin 6) : Finset S18432x2x128.Idx := (oBlk (coords w.1.1 w.1.2) w.2).view.set

theorem mem_iSet (w : Fin 2 × Fin 16) (j : S18432.Idx) :
    j ∈ iSet w ↔ 1152 * w.2.val + 576 * w.1.val ≤ (j 0).val ∧ (j 0).val < 1152 * w.2.val + 576 * w.1.val + 576 := mem_iBlk (coords w.1 w.2) j
theorem mem_oSet (w : (Fin 2 × Fin 16) × Fin 6) (j : S18432x2x128.Idx) :
    j ∈ oSet w ↔ 1152 * w.1.2.val + 576 * w.1.1.val + 96 * w.2.val ≤ (j 0).val ∧ (j 0).val < 1152 * w.1.2.val + 576 * w.1.1.val + 96 * w.2.val + 96 :=
  mem_oBlk (coords w.1.1 w.1.2) w.2 j

theorem iSet_disjoint (w w' : Fin 2 × Fin 16) (h : w ≠ w') : Disjoint (iSet w) (iSet w') :=
  Finset.disjoint_left.mpr fun j h1 h2 => by
    have h1 := (mem_iSet w j).mp h1; have h2 := (mem_iSet w' j).mp h2
    have a := w.1.isLt; have b := w'.1.isLt
    exact h (Prod.ext (Fin.ext (by omega)) (Fin.ext (by omega)))
theorem oSet_disjoint (w w' : (Fin 2 × Fin 16) × Fin 6) (h : w ≠ w') : Disjoint (oSet w) (oSet w') :=
  Finset.disjoint_left.mpr fun j h1 h2 => by
    have h1 := (mem_oSet w j).mp h1; have h2 := (mem_oSet w' j).mp h2
    have a := w.1.1.isLt; have b := w'.1.1.isLt; have c := w.2.isLt; have e := w'.2.isLt
    exact h (Prod.ext (Prod.ext (Fin.ext (by omega)) (Fin.ext (by omega))) (Fin.ext (by omega)))
theorem iSet_cover : (Finset.univ : Finset (Fin 2 × Fin 16)).biUnion iSet = Finset.univ := by
  ext j
  simp only [Finset.mem_biUnion, Finset.mem_univ, true_and, iff_true]
  have hj : (j 0).val < 18432 := (j 0).isLt
  refine ⟨(⟨(j 0).val / 576 % 2, by omega⟩, ⟨(j 0).val / 1152, by omega⟩), (mem_iSet _ j).mpr ?_⟩
  show 1152 * ((j 0).val / 1152) + 576 * ((j 0).val / 576 % 2) ≤ _ ∧ _ < 1152 * ((j 0).val / 1152) + 576 * ((j 0).val / 576 % 2) + 576
  omega
theorem oSet_cover : (Finset.univ : Finset ((Fin 2 × Fin 16) × Fin 6)).biUnion oSet = Finset.univ := by
  ext j
  simp only [Finset.mem_biUnion, Finset.mem_univ, true_and, iff_true]
  have hj : (j 0).val < 18432 := (j 0).isLt
  refine ⟨((⟨(j 0).val / 576 % 2, by omega⟩, ⟨(j 0).val / 1152, by omega⟩), ⟨(j 0).val % 576 / 96, by omega⟩), (mem_oSet _ j).mpr ?_⟩
  show 1152 * ((j 0).val / 1152) + 576 * ((j 0).val / 576 % 2) + 96 * ((j 0).val % 576 / 96) ≤ _
    ∧ _ < 1152 * ((j 0).val / 1152) + 576 * ((j 0).val / 576 % 2) + 96 * ((j 0).val % 576 / 96) + 96
  omega

theorem iPts_deal (d : Dev nD) (f : S18432.Idx → Elt F .i32) :
    (iLoc d ↦{fullShare} f : sProp 𝕄) = bigSep Finset.univ fun c : Fin 2 => bigSep Finset.univ fun s : Fin 16 => iPts d (coords c s) f := by
  rw [← iSet_cover]
  refine (pointsTo_biUnion Finset.univ (ℓ := iLoc d) iSet (fun r _ r' _ h => iSet_disjoint r r' h)).trans ?_
  exact bigSep_univ_prod (fun w : Fin 2 × Fin 16 => (iPts d (coords w.1 w.2) f : sProp 𝕄))

theorem oPts_deal (d : Dev nD) (f : S18432x2x128.Idx → Elt F .f32) :
    (oLoc d ↦{fullShare} f : sProp 𝕄) = bigSep Finset.univ fun c : Fin 2 => bigSep Finset.univ fun s : Fin 16 => bigSep Finset.univ fun r : Fin 6 => oPts d (coords c s) r f := by
  rw [← oSet_cover]
  refine (pointsTo_biUnion Finset.univ (ℓ := oLoc d) oSet (fun r _ r' _ h => oSet_disjoint r r' h)).trans ?_
  refine (bigSep_univ_prod (fun w : (Fin 2 × Fin 16) × Fin 6 => (oPts d (coords w.1.1 w.1.2) w.2 f : sProp 𝕄))).trans ?_
  exact bigSep_univ_prod (fun w : Fin 2 × Fin 16 => bigSep Finset.univ fun r : Fin 6 => (oPts d (coords w.1 w.2) r f : sProp 𝕄))

theorem tPts_deal (d : Dev nD) (f : S1032x2x128.Idx → Elt F .f32) :
    (tLoc d ↦{fullShare} f : sProp 𝕄) = bigSep Finset.univ fun c : Fin 2 => bigSep Finset.univ fun s : Fin 16 => tPts d (coords c s) f (qW c s) := by
  rw [← set_tAll]
  refine (Transfers.pointsTo_deal (Finset.univ : Finset (Fin 2)) ⟨0, Finset.mem_univ _⟩ fullShare).trans ?_
  exact bigSep_congr fun c _ => Transfers.pointsTo_deal (Finset.univ : Finset (Fin 16)) ⟨0, Finset.mem_univ _⟩ (Transfers.dealOf fullShare Finset.univ c)

theorem some_oPts (d : Dev nD) (L : grid0.Coords) (r : Fin 6) (fo : S18432x2x128.Idx → Elt F .f32) :
    (oPts d L r fo : sProp 𝕄) ⊢ iprop(∃ f, oPts d L r f) := by
  iintro H; iexists fo; iexact H

theorem st_of (d : Dev nD) (fo : S18432x2x128.Idx → Elt F .f32) :
    iprop((iLoc d ↦{fullShare} Ib m d) ∗ (tLoc d ↦{fullShare} Tb m d) ∗ oLoc d ↦{fullShare} fo)
      ⊢ (bigSep Finset.univ fun c : Fin ((K (F := F)).nCore 0) => (P m).st 0 d c : sProp 𝕄) := by
  show _ ⊢ (bigSep Finset.univ fun c : Fin 2 => bigSep Finset.univ fun s : Fin 16 => goW m d c s : sProp 𝕄)
  unfold goW goT
  simp only [bigSep_sep']
  rw [iPts_deal, tPts_deal, oPts_deal]
  iintro ⟨Hi, Ht, Ho⟩
  isplitl [Hi]; · iexact Hi
  isplitl [Ht]; · iexact Ht
  iapply (show (bigSep Finset.univ fun c : Fin 2 => bigSep Finset.univ fun s : Fin 16 => bigSep Finset.univ fun r : Fin 6 => oPts d (coords c s) r fo : sProp 𝕄)
      ⊢ bigSep Finset.univ fun c : Fin 2 => bigSep Finset.univ fun s : Fin 16 => bigSep Finset.univ fun r : Fin 6 => iprop(∃ f, oPts d (coords c s) r f) from
    bigSep_mono fun c _ => bigSep_mono fun s _ => bigSep_mono fun r _ => some_oPts d (coords c s) r fo)
  iexact Ho

theorem dn_eq (d : Dev nD) :
    (bigSep Finset.univ fun c : Fin ((K (F := F)).nCore 0) => (P m).dn 0 d c : sProp 𝕄)
      = iprop((iLoc d ↦{fullShare} Ib m d) ∗ (tLoc d ↦{fullShare} Tb m d) ∗ oLoc d ↦{fullShare} Out (Tb m d) (Ib m d)) := by
  show (bigSep Finset.univ fun c : Fin 2 => bigSep Finset.univ fun s : Fin 16 => tdW m d c s : sProp 𝕄) = _
  unfold tdW tdT
  simp only [bigSep_sep']
  rw [iPts_deal, tPts_deal, oPts_deal]

/-! ## The launch element -/

def u₀ : UU := (initOf (K (F := F)).hsCells (K (F := F)).hsToks, 1)

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

/-! ## The host's operations around the call -/

abbrev rI : DevRef τ sig := Proc.devRef .tc (main_arg0 : Ref sig .tc)
abbrev rC : DevRef τ sig := Proc.devRef .tc (main_arg1 : Ref sig .tc)
abbrev rZ : DevRef τ sig := Proc.devRef .tc (main_cst : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev opZ : HloOp τ sig (Elt F) := StableHlo.nullary main_cst (constant S_ .f32 0x00000000#32)
abbrev op0 : HloOp τ sig (Elt F) := StableHlo.unary main_cst main_v0 (broadcastInDim S8x256 ![] bcast_S_S8x256)
abbrev op1 : HloOp τ sig (Elt F) := StableHlo.binary main_arg1 main_v0 main_v1
  ((fun a b => concatenate S1032x256 0 [⟨S1024x256, a⟩, ⟨S8x256, b⟩] concatenates_S1024x256_S8x256_S1032x256_d0) :
    (⟨S1024x256, .f32⟩ : BufTy).Contents (Elt F) → (⟨S8x256, .f32⟩ : BufTy).Contents (Elt F) → (⟨S1032x256, .f32⟩ : BufTy).Contents (Elt F))
abbrev op2 : HloOp τ sig (Elt F) := StableHlo.reshape main_v1 main_v2 (rfl : (.f32 : EltTy) = .f32) shapeCasts_S1032x256_S1032x2x128
abbrev op4 : HloOp τ sig (Elt F) := StableHlo.reshape main_v3 main_v4 (rfl : (.f32 : EltTy) = .f32) shapeCasts_S18432x2x128_S32x576x256

abbrev S8 : Finset (DevRef τ sig) := {rI, rC, rZ, r0, r1, r2, r3, r4}

theorem held_S8 (d : Dev nD) (W : Valuation τ sig (Elt F)) :
    (held (T d) S8 W : sProp 𝕄)
      = iprop((iLoc d ↦{fullShare} W rI) ∗ ((SparseCore.T d).loc main_arg1 ↦{fullShare} W rC) ∗ ((SparseCore.T d).loc main_cst ↦{fullShare} W rZ)
          ∗ ((SparseCore.T d).loc main_v0 ↦{fullShare} W r0) ∗ ((SparseCore.T d).loc main_v1 ↦{fullShare} W r1) ∗ (tLoc d ↦{fullShare} W r2)
          ∗ (oLoc d ↦{fullShare} W r3) ∗ (SparseCore.T d).loc main_v4 ↦{fullShare} W r4) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_all (d : Dev nD) (W : (b : Ref sig .tc) → Buf (Elt F) ((d.tc : Thread nD τ).loc b)) :
    (unscopedBufs d W : sProp 𝕄)
      = iprop((iLoc d ↦{fullShare} W main_arg0) ∗ ((SparseCore.T d).loc main_arg1 ↦{fullShare} W main_arg1) ∗ ((SparseCore.T d).loc main_cst ↦{fullShare} W main_cst)
          ∗ ((SparseCore.T d).loc main_v0 ↦{fullShare} W main_v0) ∗ ((SparseCore.T d).loc main_v1 ↦{fullShare} W main_v1) ∗ (tLoc d ↦{fullShare} W main_v2)
          ∗ (oLoc d ↦{fullShare} W main_v3) ∗ (SparseCore.T d).loc main_v4 ↦{fullShare} W main_v4) := by
  unfold unscopedBufs
  rw [show (Finset.univ.filter fun b : Ref sig .tc => ¬ b.isScoped) = {main_arg0, main_arg1, main_cst, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The arrays as launched; before the call; after it. -/
def V0 (d : Dev nD) : Valuation τ sig (Elt F) := fun b => m (d, b)
abbrev Va (d : Dev nD) : Valuation τ sig (Elt F) := (opZ (F := F)).result (V0 m d)
abbrev Vb (d : Dev nD) : Valuation τ sig (Elt F) := (op0 (F := F)).result (Va m d)
abbrev Vc (d : Dev nD) : Valuation τ sig (Elt F) := (op1 (F := F)).result (Vb m d)
abbrev Vd (d : Dev nD) : Valuation τ sig (Elt F) := (op2 (F := F)).result (Vc m d)
def Ve (d : Dev nD) : Valuation τ sig (Elt F) := Function.update (Vd m d) r3 (Out (Tb m d) (Ib m d))

theorem unscoped_held (d : Dev nD) : (unscopedBufs d (fun b => m ((SparseCore.T d).loc b)) : sProp 𝕄) = held (T d) S8 (V0 m d) := by
  rw [unscoped_all, held_S8]; rfl

theorem Vd_arg (d : Dev nD) (b : DevRef τ sig) (hz : b ≠ rZ) (h0 : b ≠ r0) (h1 : b ≠ r1) (h2 : b ≠ r2) : Vd m d b = m (d, b) := by
  unfold Vd Vc Vb Va
  rw [(op2 (F := F)).result_of_not_mem _ (show b ∉ ({r2} : Finset (DevRef τ sig)) from fun e => h2 (Finset.mem_singleton.mp e)),
    (op1 (F := F)).result_of_not_mem _ (show b ∉ ({r1} : Finset (DevRef τ sig)) from fun e => h1 (Finset.mem_singleton.mp e)),
    (op0 (F := F)).result_of_not_mem _ (show b ∉ ({r0} : Finset (DevRef τ sig)) from fun e => h0 (Finset.mem_singleton.mp e)),
    (opZ (F := F)).result_of_not_mem _ (show b ∉ ({rZ} : Finset (DevRef τ sig)) from fun e => hz (Finset.mem_singleton.mp e))]
  rfl
theorem Vd_I (d : Dev nD) : Vd m d rI = Ib m d := Vd_arg m d rI (by decide) (by decide) (by decide) (by decide)
theorem Vd_C (d : Dev nD) : Vd m d rC = m ((SparseCore.T d).loc main_arg1) := Vd_arg m d rC (by decide) (by decide) (by decide) (by decide)
theorem Vb_0 (d : Dev nD) : Vb m d r0 = broadcastInDim S8x256 ![] bcast_S_S8x256 (constant (F := F) S_ .f32 0x00000000#32) :=
  (StableHlo.unary_result _ _ _ _ _ _).trans
    (congrArg (broadcastInDim S8x256 ![] bcast_S_S8x256) (StableHlo.nullary_result main_cst (constant (F := F) S_ .f32 0x00000000#32) (by decide) (V0 m d)))
theorem Vb_C (d : Dev nD) : Vb m d rC = m ((SparseCore.T d).loc main_arg1) := by
  unfold Vb Va
  rw [(op0 (F := F)).result_of_not_mem _ (show rC ∉ ({r0} : Finset (DevRef τ sig)) by decide),
    (opZ (F := F)).result_of_not_mem _ (show rC ∉ ({rZ} : Finset (DevRef τ sig)) by decide)]
  rfl
theorem Vc_1 (d : Dev nD) : Vc m d r1 = Pad (m ((SparseCore.T d).loc main_arg1)) := by
  refine (StableHlo.binary_result _ _ _ _ _ _ _ _).trans ?_
  rw [Vb_0, Vb_C]
theorem Vd_2 (d : Dev nD) : Vd m d r2 = Tb m d := by
  refine (StableHlo.reshape_result _ _ _ _ _ _ _).trans ?_
  rw [Vc_1]
  rfl

theorem Ve_3 (d : Dev nD) : Ve m d r3 = Out (Tb m d) (Ib m d) := Function.update_self _ _ _
theorem Ve_of (d : Dev nD) (b : DevRef τ sig) (h : b ≠ r3) : Ve m d b = Vd m d b := Function.update_of_ne h _ _

theorem held_Vd (d : Dev nD) :
    (held (T d) S8 (Vd m d) : sProp 𝕄)
      = iprop((iLoc d ↦{fullShare} Ib m d) ∗ ((SparseCore.T d).loc main_arg1 ↦{fullShare} Vd m d rC) ∗ ((SparseCore.T d).loc main_cst ↦{fullShare} Vd m d rZ)
          ∗ ((SparseCore.T d).loc main_v0 ↦{fullShare} Vd m d r0) ∗ ((SparseCore.T d).loc main_v1 ↦{fullShare} Vd m d r1) ∗ (tLoc d ↦{fullShare} Tb m d)
          ∗ (oLoc d ↦{fullShare} Vd m d r3) ∗ (SparseCore.T d).loc main_v4 ↦{fullShare} Vd m d r4) := by
  rw [held_S8, Vd_I, Vd_2]
theorem held_Ve (d : Dev nD) :
    (held (T d) S8 (Ve m d) : sProp 𝕄)
      = iprop((iLoc d ↦{fullShare} Ib m d) ∗ ((SparseCore.T d).loc main_arg1 ↦{fullShare} Vd m d rC) ∗ ((SparseCore.T d).loc main_cst ↦{fullShare} Vd m d rZ)
          ∗ ((SparseCore.T d).loc main_v0 ↦{fullShare} Vd m d r0) ∗ ((SparseCore.T d).loc main_v1 ↦{fullShare} Vd m d r1) ∗ (tLoc d ↦{fullShare} Tb m d)
          ∗ (oLoc d ↦{fullShare} Out (Tb m d) (Ib m d)) ∗ (SparseCore.T d).loc main_v4 ↦{fullShare} Vd m d r4) := by
  rw [held_S8, Ve_3, Ve_of m d rI (by decide), Ve_of m d rC (by decide), Ve_of m d rZ (by decide), Ve_of m d r0 (by decide), Ve_of m d r1 (by decide),
    Ve_of m d r2 (by decide), Ve_of m d r4 (by decide), Vd_I, Vd_2]

theorem Vf_4 (d : Dev nD) : (op4 (F := F)).result (Ve m d) r4 = Rv m d := by
  refine (StableHlo.reshape_result _ _ _ _ _ _ _).trans ?_
  rw [Ve_3]
  rfl
theorem Vf_of (d : Dev nD) (b : DevRef τ sig) (h : b ≠ r4) : (op4 (F := F)).result (Ve m d) b = Ve m d b :=
  (op4 (F := F)).result_of_not_mem _ (show b ∉ ({r4} : Finset (DevRef τ sig)) from fun e => h (Finset.mem_singleton.mp e))

/-- What the claims read at the end: the two arguments as launched, the result. -/
abbrev FIN (d : Dev nD) : sProp 𝕄 :=
  iprop((iLoc d ↦{fullShare} m (iLoc d)) ∗ ((SparseCore.T d).loc main_arg1 ↦{fullShare} m ((SparseCore.T d).loc main_arg1)) ∗ (SparseCore.T d).loc main_v4 ↦{fullShare} Rv m d)

theorem held_Vf (d : Dev nD) :
    (held (T d) S8 ((op4 (F := F)).result (Ve m d)) : sProp 𝕄) ⊢ FIN m d := by
  rw [held_S8, Vf_4, Vf_of m d rI (by decide), Vf_of m d rC (by decide), Ve_of m d rI (by decide), Ve_of m d rC (by decide), Vd_I, Vd_C]
  iintro ⟨Hi, Hc, -, -, -, -, -, Hr⟩
  isplitl [Hi]; · iexact Hi
  isplitl [Hc]; · iexact Hc
  iexact Hr

theorem hZ : (opZ (F := F)).bufs ⊆ S8 := show ({rZ} : Finset (DevRef τ sig)) ⊆ S8 by decide
theorem h0 : (op0 (F := F)).bufs ⊆ S8 := show ({rZ, r0} : Finset (DevRef τ sig)) ⊆ S8 by decide
theorem h1 : (op1 (F := F)).bufs ⊆ S8 := show ({rC, r0, r1} : Finset (DevRef τ sig)) ⊆ S8 by decide
theorem h2 : (op2 (F := F)).bufs ⊆ S8 := show ({r1, r2} : Finset (DevRef τ sig)) ⊆ S8 by decide
theorem h4 : (op4 (F := F)).bufs ⊆ S8 := show ({r3, r4} : Finset (DevRef τ sig)) ⊆ S8 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opZ) (S := S8) hZ (V := V0 m d)) $$ [Hb Hheld]
  · isplitl [Hb] <;> iassumption
  iintro ⟨Hb, Hheld⟩
  rw [wp_ret]; imodintro
  iapply (wp_hlo_within 𝒱 (SparseCore.T d) none Set.univ (op := op0) (S := S8) h0 (V := Va m d)) $$ [Hb Hheld]
  · isplitl [Hb] <;> iassumption
  iintro ⟨Hb, Hheld⟩
  rw [wp_ret]; imodintro
  iapply (wp_hlo_within 𝒱 (SparseCore.T d) none Set.univ (op := op1) (S := S8) h1 (V := Vb m d)) $$ [Hb Hheld]
  · isplitl [Hb] <;> iassumption
  iintro ⟨Hb, Hheld⟩
  rw [wp_ret]; imodintro
  iapply (wp_hlo_within 𝒱 (SparseCore.T d) none Set.univ (op := op2) (S := S8) h2 (V := Vc m d)) $$ [Hb Hheld]
  · isplitl [Hb] <;> iassumption
  iintro ⟨Hb, Hheld⟩
  rw [wp_ret]; imodintro
  -- the call
  ihave Hh := (Entails.of_eq (held_Vd (F := F) m d)) $$ Hheld
  icases Hh with ⟨Hi, Hc, Hz, H0, H1, Ht, Ho, H4⟩
  iapply ((K (F := F)).wp_run (D (F := F)) 𝒱 (EH := EH) (P := P m) κ d 0) $$ [Hst Hi Ht Ho Hb Hc Hz H0 H1 H4 Hts]
  isplitr; · iexact Hctx
  isplitl [Hst]; · iexact Hst
  isplitl [Hi Ht Ho]
  · iapply (st_of m d _)
    isplitl [Hi]; · iexact Hi
    isplitl [Ht]; · iexact Ht
    iexact Ho
  iintro ⟨Hst, Hdn⟩
  ihave Hdn' := (Entails.of_eq (dn_eq m d)) $$ Hdn
  icases Hdn' with ⟨Hi, Ht, Ho⟩
  -- the last reshape
  iapply (wp_hlo_within 𝒱 (SparseCore.T d) none Set.univ (op := op4) (S := S8) h4 (V := Ve m d)) $$ [Hb Hi Hc Hz H0 H1 Ht Ho H4]
  · isplitl [Hb]; · iexact Hb
    rw [held_Ve]
    isplitl [Hi]; · iexact Hi
    isplitl [Hc]; · iexact Hc
    isplitl [Hz]; · iexact Hz
    isplitl [H0]; · iexact H0
    isplitl [H1]; · iexact H1
    isplitl [Ht]; · iexact Ht
    isplitl [Ho]; · iexact Ho
    iexact H4
  iintro ⟨Hb, Hheld⟩
  ihave Hh := (held_Vf (F := F) m d) $$ Hheld
  rw [wp_ret]; imodintro; imodintro
  isplitl [Hst]; · iexact Hst
  isplitr [Hb Hts]; · iexact Hh
  isplitl [Hb] <;> iassumption

def fq (d : Dev nD) (s' : Phys nD τ sig (Elt F)) : Prop :=
  s'.mem.mem ((SparseCore.T d).loc main_v4) = Rv m d ∧ s'.mem.mem (iLoc d) = m (iLoc d)
    ∧ s'.mem.mem ((SparseCore.T d).loc main_arg1) = m ((SparseCore.T d).loc main_arg1)

set_option maxRecDepth 16384 in
theorem hfin (d : Dev nD) (s' : Phys nD τ sig (Elt F)) : iprop(FIN m d ∗ SI s') ⊢ (⌜fq m d s'⌝ : sProp 𝕄) := by
  iintro ⟨⟨Hi, Hc, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%e1, HSI, -⟩
  ihave H := (persistent_entails_right (SI_pointsTo_agree (st := s') (ℓ := (SparseCore.T d).loc main_arg1) (I := Finset.univ) (q := fullShare)
    (f := m ((SparseCore.T d).loc main_arg1)))) $$ [HSI Hc]
  · isplitl [HSI] <;> iassumption
  icases H with ⟨%e2, HSI, -⟩
  ihave H := (SI_pointsTo_agree (st := s') (ℓ := (SparseCore.T d).loc main_v4) (I := Finset.univ) (q := fullShare) (f := Rv m d)) $$ [HSI Hr]
  · isplitl [HSI] <;> iassumption
  icases H with %e3
  ipureintro
  exact ⟨funext fun i => e3 i (Finset.mem_univ i), funext fun i => e1 i (Finset.mem_univ i), funext fun i => e2 i (Finset.mem_univ i)⟩

def QC : PUnit × MemSt nD τ sig (Elt F) → Prop := fun r =>
  (∀ c : Dev nD, r.2.mem ((SparseCore.T c).loc main_v4) = Rv m c ∧ r.2.mem (iLoc c) = m (iLoc c)
    ∧ r.2.mem ((SparseCore.T c).loc main_arg1) = m ((SparseCore.T c).loc main_arg1)) ∧ r.2.sem = fun _ => 0

/-- From indices in range: the result holds the gathered rows, the arguments are as launched, the counters are at zero. -/
theorem run_main [∀ e, Nonempty (Elt F e)] (h : ∀ d, InRange (Ib m d)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) lfacts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Gi

end
-- ==== Proof.GiRef.lean ====
/- The gather's reference: its run, and its result at an entry against the kernel's. -/
module

public import proofs.«01_k».proof.Proof.GiRun
public import proofs.«01_k».proof.Proof.ScRun
public import proofs.«01_k».proof.Proof.RefVal
public import proofs.«01_k».proof.Proof.Gen.GatherReferenceIdeal
public import proofs.«01_k».proof.Proof.Gen.Pre_in_range
public import Idealize.ShloMosaic.Lib.Claim
public import Idealize.ShloMosaic.Lib.Quiescent
public import Idealize.ShloMosaic.Lib.Pointwise
public import Idealize.ShloMosaic.Lib.ReduceAll

@[expose] public section

set_option maxRecDepth 16384

noncomputable section

namespace Cert.GiRef

instance : Subsingleton Cert.Pre_in_range.S_.Idx := ⟨fun a b => funext fun i => i.elim0⟩

open Idealize.ShloMosaic Idealize.SL.Sem Cert.GatherReferenceIdeal Cert.GatherReferenceIdeal.Gen

/-- The rows the reference looks up, zero where the index is the padding's. -/
def rows (cb : FVec Ideal S1024x256 .f32) (ix : IVec S18432 32) : FVec Ideal S18432x256 .f32 :=
  select
    (broadcastInDim S18432x256 ![0, 1] bcast_S18432x1_S18432x256_0_1 (broadcastInDim S18432x1 ![0] bcast_S18432_S18432x1_0
      (cmpi .slt ix (broadcastInDim S18432 ![] bcast_S_S18432 (constantI S_ 32 1024#32)))))
    (Cert.RefRun.taken cb ix) (broadcastInDim S18432x256 ![] bcast_S_S18432x256 (constant S_ .f32 0x00000000#32))

set_option maxRecDepth 20000 in
set_option maxHeartbeats 4000000 in
/-- The run, at any launch memory. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5)
        = shapeCast S32x576x256 (rows (m ((c.tc : Thread nD τ).loc main_arg1)) (m ((c.tc : Thread nD τ).loc main_arg0))) shapeCasts_S18432x256_S32x576x256
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals simp only [StableHlo.TRef.ofBuf_toBuf]
  all_goals simp only [StableHlo.TRef.ofBuf, StableHlo.TRef.toBuf, cast_eq]
  · rfl

/-- The reference is quiescent. -/
theorem frame : Cert.quiescent_GatherReferenceIdeal (hGatherReferenceIdeal := Cert.GatherReferenceIdeal.Gen.facts) := fun m g _ =>
  (θ_run defs _ _).mono (fun r h => ⟨fun c => (h c).2, Idealize.ShloMosaic.sem_eq_zero_of_no_sems (by decide) r.2⟩) (run m g)

/-- The precondition at an index: it is at most 1024. -/
theorem range_of_pre {F : FTy → Type} [FloatOps F] (ix : IVec S18432 32) (cb : FVec F S1024x256 .f32)
    (h : Cert.Pre_in_range.fn (F := F) ix cb = fun _ => 1#1) (j : S18432.Idx) : (ix j).toNat ≤ 1024 := by
  have two : ∀ a b : BitVec 1, IntOp.andi a b = 1#1 → a = 1#1 ∧ b = 1#1 := by decide
  obtain ⟨e0, e1⟩ := two _ _ (congrFun h (Shape.Idx.first (s := Cert.Pre_in_range.S_) (by decide)))
  have h0 : IntOp.cmpi .sge (ix j) 0#32 = 1#1 := Host.reduce_andi_all _ _ _ _ _ e0 j
  have h1 : IntOp.cmpi .sle (ix j) 1024#32 = 1#1 := Host.reduce_andi_all _ _ _ _ _ e1 j
  have ofBool_one : ∀ p : Bool, (BitVec.ofBool p = 1#1) ↔ p = true := by decide
  simp only [IntOp.cmpi, ofBool_one, BitVec.sle_eq_decide, decide_eq_true_eq, BitVec.toInt_eq_toNat_cond, BitVec.toNat_ofNat, Nat.reducePow, Nat.reduceMod] at h0 h1
  omega

theorem rows_apply (cb : FVec Ideal S1024x256 .f32) (ix : IVec S18432 32) (r : Fin 18432) (b : Fin 256) :
    rows cb ix (ValueIdx.ix2 r b)
      = Scalar.select (IntOp.cmpi .slt (ix (ValueIdx.ix1 r)) 1024#32) (Cert.RefRun.taken cb ix (ValueIdx.ix2 r b)) (0 : EReal) := by
  pointwise [rows]
  rfl

theorem rows_lt (cb : FVec Ideal S1024x256 .f32) (ix : IVec S18432 32) (r : Fin 18432) (b : Fin 256) (k : Fin 1024)
    (h : ix (ValueIdx.ix1 r) = BitVec.ofNat 32 k.val) : rows cb ix (ValueIdx.ix2 r b) = cb (ValueIdx.ix2 k b) := by
  have hs : IntOp.cmpi .slt (ix (ValueIdx.ix1 r)) 1024#32 = 1#1 := by
    rw [h]; exact (StableHlo.Predicate.slt_ofNat_iff k.val 1024 (by omega) (by omega)).2 k.isLt
  rw [rows_apply, hs, Cert.RefVal.taken_eq cb ix r b k h]
  rfl

theorem rows_pad (cb : FVec Ideal S1024x256 .f32) (ix : IVec S18432 32) (r : Fin 18432) (b : Fin 256)
    (h : ix (ValueIdx.ix1 r) = 1024#32) : rows cb ix (ValueIdx.ix2 r b) = (0 : EReal) := by
  rw [rows_apply, h]
  rfl

/-! ## The kernel's result at an entry -/

theorem tb_apply (cb : FVec Ideal S1024x256 .f32) (k : Fin 1032) (p : Fin 2) (b : Fin 128) :
    Cert.Gi.TbOf (F := Ideal) cb (ValueIdx.ix3 k p b)
      = if h : k.val < 1024 then cb (ValueIdx.ix2 ⟨k.val, h⟩ ⟨p.val * 128 + b.val, by omega⟩) else (0 : EReal) := by
  pointwise [Cert.Gi.TbOf]
  rfl

theorem out_apply (T : Cert.GatherIdeal.S1032x2x128.Idx → Ideal .f32) (ix : IVec S18432 32) (r : Fin 18432) (p : Fin 2) (b : Fin 128) :
    Cert.Gi.Out (F := Ideal) T ix (ValueIdx.ix3 r p b)
      = T (ValueIdx.ix3 ⟨(ix (ValueIdx.ix1 r)).toNat % 1032, Nat.mod_lt _ (by decide)⟩ p b) := by
  have e : Cert.Gi.ixAt (ValueIdx.ix3 r p b) = ValueIdx.ix1 r := by funext a; match a with | 0 => rfl
  show T (Cert.Gi.rowAt (ix (Cert.Gi.ixAt (ValueIdx.ix3 r p b))) (ValueIdx.ix3 r p b)) = _
  rw [e]
  refine congrArg T ?_
  funext a
  match a with
  | 0 => rfl
  | 1 => rfl
  | 2 => rfl

theorem rv_apply (cb : FVec Ideal S1024x256 .f32) (ix : IVec S18432 32) (s : Fin 32) (t : Fin 576) (b : Fin 256) :
    Cert.Gi.RvOf (F := Ideal) cb ix (ValueIdx.ix3 s t b)
      = Cert.Gi.Out (F := Ideal) (Cert.Gi.TbOf (F := Ideal) cb) ix
          (ValueIdx.ix3 ⟨s.val * 576 + t.val, by omega⟩ ⟨b.val / 128, by omega⟩ ⟨b.val % 128, by omega⟩) := by
  pointwise [Cert.Gi.RvOf]
  rfl

theorem ref_apply (y : FVec Ideal S18432x256 .f32) (s : Fin 32) (t : Fin 576) (b : Fin 256) :
    shapeCast S32x576x256 y shapeCasts_S18432x256_S32x576x256 (ValueIdx.ix3 s t b) = y (ValueIdx.ix2 ⟨s.val * 576 + t.val, by omega⟩ b) := by
  pointwise
  rfl

/-- From indices of at most 1024, the kernel's result is the reference's. -/
theorem result_eq (cb : FVec Ideal S1024x256 .f32) (ix : IVec S18432 32) (h : ∀ j, (ix j).toNat ≤ 1024) :
    Cert.Gi.RvOf (F := Ideal) cb ix = shapeCast S32x576x256 (rows cb ix) shapeCasts_S18432x256_S32x576x256 := by
  funext j
  obtain ⟨s, t, b, rfl⟩ : ∃ (s : Fin 32) (t : Fin 576) (b : Fin 256), j = ValueIdx.ix3 s t b :=
    ⟨j 0, j 1, j 2, by funext a; match a with | 0 => rfl | 1 => rfl | 2 => rfl⟩
  rw [rv_apply, ref_apply, out_apply, tb_apply]
  generalize hr : (⟨s.val * 576 + t.val, _⟩ : Fin 18432) = r
  have hle := h (ValueIdx.ix1 r)
  have hm : (ix (ValueIdx.ix1 r)).toNat % 1032 = (ix (ValueIdx.ix1 r)).toNat := Nat.mod_eq_of_lt (by omega)
  have hb : (⟨b.val / 128 * 128 + b.val % 128, by omega⟩ : Fin 256) = b := Fin.ext (by show b.val / 128 * 128 + b.val % 128 = b.val; omega)
  by_cases hk : (ix (ValueIdx.ix1 r)).toNat < 1024
  · rw [dif_pos (show (ix (ValueIdx.ix1 r)).toNat % 1032 < 1024 by omega),
      rows_lt cb ix r b ⟨(ix (ValueIdx.ix1 r)).toNat, hk⟩ (BitVec.eq_of_toNat_eq (by simp))]
    refine congrArg cb (congrArg₂ ValueIdx.ix2 (Fin.ext hm) hb)
  · rw [dif_neg (show ¬ (ix (ValueIdx.ix1 r)).toNat % 1032 < 1024 by omega),
      rows_pad cb ix r b (BitVec.eq_of_toNat_eq (show (ix (ValueIdx.ix1 r)).toNat = 1024 by omega))]

/-- The preconditions, on the kernels. -/
theorem gi_ok (m : (ℓ : Loc Cert.GatherIdeal.nD Cert.GatherIdeal.τ Cert.GatherIdeal.sig) → Buf (Elt Ideal) ℓ)
    (h : Cert.Pre_GatherIdeal (hPre_in_range := Cert.Pre_in_range.Gen.facts) m) (d : Dev Cert.GatherIdeal.nD) : Cert.Gi.InRange (Cert.Gi.Ib m d) := fun j =>
  Nat.lt_of_le_of_lt (range_of_pre _ _ (h d) j) (by decide)
theorem sc_ok (m : (ℓ : Loc Cert.Gather.nD Cert.Gather.τ Cert.Gather.sig) → Buf (Elt Bits) ℓ)
    (h : Cert.Pre_Gather (hPre_in_range := Cert.Pre_in_range.Gen.facts) m) (d : Dev Cert.Gather.nD) : Cert.Sc.InRange (Cert.Sc.Ib m d) := fun j =>
  Nat.lt_of_le_of_lt (range_of_pre _ _ (h d) j) (by decide)

theorem sc_frame : Cert.quiescent_Gather (hGather := Cert.Gather.Gen.facts) (hPre_in_range := Cert.Pre_in_range.Gen.facts) := fun m g h =>
  (θ_run Cert.Gather.defs _ _).mono (fun _ e => ⟨fun c => (e.1 c).2, e.2⟩) (Cert.Sc.run_main (F := Bits) m g (sc_ok m h))
theorem gi_frame : Cert.quiescent_GatherIdeal (hGatherIdeal := Cert.GatherIdeal.Gen.facts) (hPre_in_range := Cert.Pre_in_range.Gen.facts) := fun m g h =>
  (θ_run Cert.GatherIdeal.defs _ _).mono (fun _ e => ⟨fun c => (e.1 c).2, e.2⟩) (Cert.Gi.run_main (F := Ideal) m g (gi_ok m h))

/-- The gathered rows are the reference's. -/
theorem gathered : Cert.algebraic_GatherIdeal_GatherReferenceIdeal (hGatherIdeal := Cert.GatherIdeal.Gen.facts)
    (hGatherReferenceIdeal := Cert.GatherReferenceIdeal.Gen.facts) (hPre_in_range := Cert.Pre_in_range.Gen.facts) := by
  intro m g m' g' hpre hag
  refine ⟨fun c => Cert.Gi.Rv m c, (θ_run Cert.GatherIdeal.defs _ _).mono (fun _ e => e.1) (Cert.Gi.run_main (F := Ideal) m g (gi_ok m hpre)), ?_⟩
  refine (θ_run _ _ _).mono (fun r e c => ?_) (run m' g')
  obtain ⟨e0, e1⟩ := e c
  obtain ⟨a0, a1⟩ := hag c
  rw [a0, a1] at e0
  exact ⟨e0.trans (result_eq _ _ fun j => range_of_pre _ _ (hpre c) j).symm, e1⟩

end Cert.GiRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.Pre_in_range
public import proofs.«01_k».proof.Proof.Finite
public import proofs.«01_k».proof.Proof.Math
public import proofs.«01_k».proof.Proof.GiRef
public import Idealize.ShloMosaic.Adequacy
public import Idealize.ShloMosaic.Init

@[expose] public section

noncomputable section

namespace Cert.Proof

open Idealize.ShloMosaic Idealize.SL.Sem Cert.Kernel

/-- The three results of the TensorCore call are the reference's. -/
theorem values : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hag
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N, Cert.KernelIdeal.Value.run_blocks m g, ?_⟩
  refine (θ_run _ _ _).mono (fun r h c => ?_) (Cert.RefRun.run m' g')
  obtain ⟨e0, e1, e2, e⟩ := h c
  obtain ⟨a0, a1, a2⟩ := hag c
  obtain ⟨h0, h2⟩ := Cert.Finite.real_of_pre _ _ _ (hpre c)
  obtain ⟨X, C, K, H⟩ := Cert.Bridge.exists_real m c h0 h2
  rw [a0, a1, a2] at e0 e1 e2
  exact ⟨e0.trans (Cert.Bridge.res_idx H _ _ fun t b => (Cert.KerVal.res3 m c t b).trans (Cert.Bridge.ker_im H t b)).symm,
    e1.trans (Cert.Bridge.res_idx H _ _ fun t b => (Cert.KerVal.res4 m c t b).trans (Cert.Bridge.ker_ig H t b)).symm,
    e2.trans (Cert.Bridge.res_loss H).symm, e⟩

theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts, Cert.Finite.facts, Cert.Pre_in_range.Gen.facts,
  fun m g _ => Cert.Kernel.Gen.frame m g, fun m g _ => Cert.KernelIdeal.Gen.frame m g, fun m g _ => Cert.KernelIdeal.Gen.frame m g,
  Cert.RefRun.frame, fun m g _ => Cert.RefRun.frame m g trivial,
  Cert.GiRef.sc_frame, Cert.GiRef.gi_frame, Cert.GiRef.frame, fun m g _ => Cert.GiRef.frame m g trivial,
  trivial, values, trivial, Cert.GiRef.gathered⟩

end Cert.Proof

end
